-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale" .f32 0x3DD105EC#32 (((Real.sqrt 96)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 128]⟩ (Layout.meshBlock [2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![128, 1024]⟩ (Layout.meshBlock [2, 2] ![[1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![128, 1024]⟩ (Layout.meshBlock [2, 2] ![[1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S512x64 : Shape := ⟨2, ![512, 64]⟩
abbrev S512x1024 : Shape := ⟨2, ![512, 1024]⟩
abbrev S3 : Shape := ⟨1, ![3]⟩
abbrev S_ : Shape := ⟨0, ![]⟩
abbrev S1 : Shape := ⟨1, ![1]⟩
abbrev S512x512 : Shape := ⟨2, ![512, 512]⟩
abbrev S512x32 : Shape := ⟨2, ![512, 32]⟩
abbrev S256x32 : Shape := ⟨2, ![256, 32]⟩
abbrev S256x64 : Shape := ⟨2, ![256, 64]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 16
  | .smem => 0
  | _ => 0

abbrev bufTy : (tb : Table) → Fin (tcTables nBuf tb) → BufTy
  | .hbm, ⟨0, _⟩ => ⟨S2x256x1024, .bf16⟩
  | .hbm, ⟨1, _⟩ => ⟨S1024x64, .bf16⟩
  | .hbm, ⟨2, _⟩ => ⟨S64x1024, .bf16⟩
  | .hbm, ⟨3, _⟩ => ⟨S64x1024, .bf16⟩
  | .hbm, ⟨4, _⟩ => ⟨S1024x1024, .bf16⟩
  | .hbm, ⟨5, _⟩ => ⟨S1024x512, .bf16⟩
  | .hbm, ⟨6, _⟩ => ⟨S1024x32, .bf16⟩
  | .hbm, ⟨7, _⟩ => ⟨S1024x1024, .bf16⟩
  | .hbm, ⟨8, _⟩ => ⟨S2x256x1024, .f32⟩
  | .local _ .vmem, ⟨0, _⟩ => ⟨S2x256x1024, .bf16⟩
  | .local _ .vmem, ⟨1, _⟩ => ⟨S1024x64, .bf16⟩
  | .local _ .vmem, ⟨2, _⟩ => ⟨S64x1024, .bf16⟩
  | .local _ .vmem, ⟨3, _⟩ => ⟨S64x1024, .bf16⟩
  | .local _ .vmem, ⟨4, _⟩ => ⟨S1024x1024, .bf16⟩
  | .local _ .vmem, ⟨5, _⟩ => ⟨S1024x512, .bf16⟩
  | .local _ .vmem, ⟨6, _⟩ => ⟨S1024x32, .bf16⟩
  | .local _ .vmem, ⟨7, _⟩ => ⟨S1024x1024, .bf16⟩
  | .local _ .vmem, ⟨8, _⟩ => ⟨S2x256x1024, .f32⟩
  | .local _ .vmem, ⟨9, _⟩ => ⟨S512x64, .bf16⟩
  | .local _ .vmem, ⟨10, _⟩ => ⟨S512x64, .bf16⟩
  | .local _ .vmem, ⟨11, _⟩ => ⟨S64x1024, .bf16⟩
  | .local _ .vmem, ⟨12, _⟩ => ⟨S64x1024, .bf16⟩
  | .local _ .vmem, ⟨13, _⟩ => ⟨S64x1024, .bf16⟩
  | .local _ .vmem, ⟨14, _⟩ => ⟨S64x1024, .bf16⟩
  | .local _ .vmem, ⟨15, _⟩ => ⟨S512x1024, .bf16⟩
  | _, _ => ⟨S2x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_17 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_16 : BitVec 32 := 2#32
  let v22 : BitVec 32 := Scalar.muli v2 c2_i32_16
  let v23 : BitVec 32 := Scalar.addi c0_i32_17 v22
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_18 : BitVec 32 := 1#32
  let v24 : BitVec 32 := Scalar.muli v6 c1_i32_18
  let v25 : BitVec 32 := Scalar.addi v23 v24
  v25.toNat
def k0_dev3 (d0 : Dev nD) : Nat :=
  let c0_i32_22 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_21 : BitVec 32 := 2#32
  let v30 : BitVec 32 := Scalar.muli v2 c2_i32_21
  let v31 : BitVec 32 := Scalar.addi c0_i32_22 v30
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_23 : BitVec 32 := 1#32
  let v32 : BitVec 32 := Scalar.muli v6 c1_i32_23
  let v33 : BitVec 32 := Scalar.addi v31 v32
  v33.toNat
def k0_dev4 (d0 : Dev nD) : Nat :=
  let c0_i32_34 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_33 : BitVec 32 := 2#32
  let v48 : BitVec 32 := Scalar.muli v2 c2_i32_33
  let v49 : BitVec 32 := Scalar.addi c0_i32_34 v48
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_35 : BitVec 32 := 1#32
  let v50 : BitVec 32 := Scalar.muli v6 c1_i32_35
  let v51 : BitVec 32 := Scalar.addi v49 v50
  v51.toNat
abbrev stage0_0 : Fin 1 → Memref sig .tc .vmem S2x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 96)⁻¹ : ℝ) : EReal)
  | _ => none
-- ==== ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S2x256x128 : Shape := ⟨3, ![2, 256, 128]⟩
abbrev S2x256x16x64 : Shape := ⟨4, ![2, 256, 16, 64]⟩
abbrev S2x256x512 : Shape := ⟨3, ![2, 256, 512]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S_ : Shape := ⟨0, ![]⟩
abbrev S2x16x256x256 : Shape := ⟨4, ![2, 16, 256, 256]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 50
  | .vmem => 0
  | .smem => 0
  | _ => 0

abbrev bufTy : (tb : Table) → Fin (tcTables nBuf tb) → BufTy
  | .hbm, ⟨0, _⟩ => ⟨S2x256x1024, .bf16⟩
  | .hbm, ⟨1, _⟩ => ⟨S1024x128, .bf16⟩
  | .hbm, ⟨2, _⟩ => ⟨S128x1024, .bf16⟩
  | .hbm, ⟨3, _⟩ => ⟨S128x1024, .bf16⟩
  | .hbm, ⟨4, _⟩ => ⟨S1024x1024, .bf16⟩
  | .hbm, ⟨5, _⟩ => ⟨S1024x512, .bf16⟩
  | .hbm, ⟨6, _⟩ => ⟨S1024x32, .bf16⟩
  | .hbm, ⟨7, _⟩ => ⟨S1024x1024, .bf16⟩
  | .hbm, ⟨8, _⟩ => ⟨S2x256x1024, .f32⟩
  | .hbm, ⟨9, _⟩ => ⟨S1024x128, .f32⟩
  | .hbm, ⟨10, _⟩ => ⟨S128x1024, .f32⟩
  | .hbm, ⟨11, _⟩ => ⟨S128x1024, .f32⟩
  | .hbm, ⟨12, _⟩ => ⟨S1024x1024, .f32⟩
  | .hbm, ⟨13, _⟩ => ⟨S1024x512, .f32⟩
  | .hbm, ⟨14, _⟩ => ⟨S1024x32, .f32⟩
  | .hbm, ⟨15, _⟩ => ⟨S1024x1024, .f32⟩
  | .hbm, ⟨16, _⟩ => ⟨S2x256x128, .f32⟩
  | .hbm, ⟨17, _⟩ => ⟨S2x256x1024, .f32⟩
  | .hbm, ⟨18, _⟩ => ⟨S2x256x16x64, .f32⟩
  | .hbm, ⟨19, _⟩ => ⟨S2x256x1024, .f32⟩
  | .hbm, ⟨20, _⟩ => ⟨S2x256x16x64, .f32⟩
  | .hbm, ⟨21, _⟩ => ⟨S2x256x1024, .f32⟩
  | .hbm, ⟨22, _⟩ => ⟨S2x256x16x64, .f32⟩
  | .hbm, ⟨23, _⟩ => ⟨S2x256x512, .f32⟩
  | .hbm, ⟨24, _⟩ => ⟨S2x256x16x32, .f32⟩
  | .hbm, ⟨25, _⟩ => ⟨S2x256x32, .f32⟩
  | .hbm, ⟨26, _⟩ => ⟨S2x256x1x32, .f32⟩
  | .hbm, ⟨27, _⟩ => ⟨S_, .f32⟩
  | .hbm, ⟨28, _⟩ => ⟨S_, .f32⟩
  | .hbm, ⟨29, _⟩ => ⟨S2x16x256x256, .f32⟩
  | .hbm, ⟨30, _⟩ => ⟨S2x256x16x32, .f32⟩
  | .hbm, ⟨31, _⟩ => ⟨S2x16x256x256, .f32⟩
  | .hbm, ⟨32, _⟩ => ⟨S2x16x256x256, .f32⟩
  | .hbm, ⟨33, _⟩ => ⟨S2x16x256x256, .f32⟩
  | .hbm, ⟨34, _⟩ => ⟨S2x16x256x256, .f32⟩
  | .hbm, ⟨35, _⟩ => ⟨S_, .f32⟩
  | .hbm, ⟨36, _⟩ => ⟨S2x16x256, .f32⟩
  | .hbm, ⟨37, _⟩ => ⟨S2x16x256x1, .f32⟩
  | .hbm, ⟨38, _⟩ => ⟨S2x16x256x256, .f32⟩
  | .hbm, ⟨39, _⟩ => ⟨S2x16x256x256, .f32⟩
  | .hbm, ⟨40, _⟩ => ⟨S2x16x256x256, .f32⟩
  | .hbm, ⟨41, _⟩ => ⟨S_, .f32⟩
  | .hbm, ⟨42, _⟩ => ⟨S2x16x256, .f32⟩
  | .hbm, ⟨43, _⟩ => ⟨S2x16x256x1, .f32⟩
  | .hbm, ⟨44, _⟩ => ⟨S2x16x256x256, .f32⟩
  | .hbm, ⟨45, _⟩ => ⟨S2x16x256x256, .f32⟩
  | .hbm, ⟨46, _⟩ => ⟨S2x16x64x256, .f32⟩
  | .hbm, ⟨47, _⟩ => ⟨S2x256x16x64, .f32⟩
  | .hbm, ⟨48, _⟩ => ⟨S2x256x1024, .f32⟩
  | .hbm, ⟨49, _⟩ => ⟨S2x256x1024, .f32⟩
  | _, _ => ⟨S2x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Heads.lean ====
/-
# The attention heads, as functions of the projected arrays

The kernel treats its 2 batches of 256 positions as 512 rows, and computes 32 heads one after
another: batch 0's sixteen, then batch 1's. Head `n` reads rows `256 * (n / 16)` on of the queries,
keys and values, columns `64 * (n % 16)` on (and columns `32 * (n % 16)` on of the rotary queries),
and stores its 256 x 64 result over the same window of the head buffer. This file writes head `n` as
one function of `n`, and the list of the first `n` stores; the head buffer after all 32 holds one
array that does not depend on what was there before (`read_stores`).
-/
module

public import proofs.«01_k».proof.Proof.Gen.KernelIdeal
public import proofs.«01_k».proof.Proof.Gen.KernelIdeal.Skeleton
public import Idealize.ShloMosaic.Lib.Writes
public import Idealize.ShloMosaic.Lib.Pipeline.ValueKit.Geometry

@[expose] public section

noncomputable section

namespace Cert.Attention

open Cert.KernelIdeal Cert.KernelIdeal.Gen
open Idealize.ShloMosaic

variable {F : FTy → Type} [FloatOps F] [Named F]

/-! ## Head `n`'s windows -/

/-- The first row of head `n`: its batch's. -/
abbrev rowOf (n : ℕ) : ℕ := 256 * (n / 16 % 2)
/-- The first of head `n`'s 64 columns. -/
abbrev colOf (n : ℕ) : ℕ := 64 * (n % 16)
/-- The first of head `n`'s 32 rotary columns. -/
abbrev rotOf (n : ℕ) : ℕ := 32 * (n % 16)

theorem window_inb (n : ℕ) : ∀ a, (![rowOf n, colOf n] : Fin 2 → ℕ) a + S256x64.size a ≤ S512x1024.size a := by
  intro a
  match a with
  | 0 => show 256 * (n / 16 % 2) + 256 ≤ 512; omega
  | 1 => show 64 * (n % 16) + 64 ≤ 1024; omega
theorem rot_inb (n : ℕ) : ∀ a, (![rowOf n, rotOf n] : Fin 2 → ℕ) a + S256x32.size a ≤ S512x512.size a := by
  intro a
  match a with
  | 0 => show 256 * (n / 16 % 2) + 256 ≤ 512; omega
  | 1 => show 32 * (n % 16) + 32 ≤ 512; omega
theorem batch_inb (n : ℕ) : ∀ a, (![rowOf n, 0] : Fin 2 → ℕ) a + S256x32.size a ≤ S512x32.size a := by
  intro a
  match a with
  | 0 => show 256 * (n / 16 % 2) + 256 ≤ 512; omega
  | 1 => exact Nat.le_refl _

/-- Head `n`'s window of the head buffer. -/
abbrev window (n : ℕ) : Rect S512x1024 := Rect.unit (s := S512x1024) ![rowOf n, colOf n] S256x64.size (window_inb n)

/-- Head `n`'s 256 x 64 block of a 512 x 1024 array, -/
def block (n : ℕ) (x : FVec F S512x1024 .bf16) : FVec F S256x64 .bf16 :=
  extractStridedSlice S256x64 ![rowOf n, colOf n] x ⟨rfl, window_inb n⟩
/-- its 256 x 32 block of the rotary queries, -/
def rotBlock (n : ℕ) (x : FVec F S512x512 .bf16) : FVec F S256x32 .bf16 :=
  extractStridedSlice S256x32 ![rowOf n, rotOf n] x ⟨rfl, rot_inb n⟩
/-- and its batch's rows of the rotary key, which every head shares. -/
def batchBlock (n : ℕ) (x : FVec F S512x32 .bf16) : FVec F S256x32 .bf16 :=
  extractStridedSlice S256x32 ![rowOf n, 0] x ⟨rfl, batch_inb n⟩

/-! ## One head -/

/-- The scaled scores of a head. -/
def scores (q k : FVec F S256x64 .bf16) (qr kr : FVec F S256x32 .bf16) : FVec F S256x256 .f32 :=
  mulf
    (addf (matmul dot_S256x64_S256x64_S256x256_1_1_0_0_n_n none q k (constant S256x256 .f32 0x00000000#32))
      (matmul dot_S256x32_S256x32_S256x256_1_1_0_0_n_n none qr kr (constant S256x256 .f32 0x00000000#32)))
    (broadcast S256x256 (Named.named κ "scale" 0x3DD105EC#32))

/-- A row's value at each of its 256 columns. -/
def alongRow (x : FVec F S256 .f32) : FVec F S256x256 .f32 :=
  broadcastTo S256x256 (shapeCast S256x1 x shapeCasts_S256_S256x1) broadcasts_S256x1_S256x256

/-- The exponentials of scores, less their row's largest. -/
def weights (s : FVec F S256x256 .f32) : FVec F S256x256 .f32 :=
  exp (subf s (alongRow (multiReduction .maximumf [1] S256 s 0xFF800000#32 reduces_S256x256_S256 (.inl rfl) rfl)))

/-- Each row's weights over their sum. -/
def softmaxRows (s : FVec F S256x256 .f32) : FVec F S256x256 .f32 :=
  divf (weights s) (alongRow (multiReduction .add [1] S256 (weights s) 0x00000000#32 reduces_S256x256_S256 (.inl rfl) rfl))

/-- A head: the softmax of its scores times its values. -/
def attend (s : FVec F S256x256 .f32) (v : FVec F S256x64 .bf16) : FVec F S256x64 .bf16 :=
  shapeCast S256x64
    (truncf .bf16
      (matmul dot_S256x256_S256x64_S256x64_1_0_0_1_n_n none (truncf .bf16 (softmaxRows s) bitsLt_bf16_f32) v
        (constant S256x64 .f32 0x00000000#32)) bitsLt_bf16_f32)
    shapeCasts_S256x64_S256x64

/-- What the heads read: the queries, rotary queries, rotary key, keys and values. -/
structure Inputs (F : FTy → Type) where
  q : FVec F S512x1024 .bf16
  qr : FVec F S512x512 .bf16
  kr : FVec F S512x32 .bf16
  k : FVec F S512x1024 .bf16
  v : FVec F S512x1024 .bf16

/-- Head `n`. -/
def head (I : Inputs F) (n : ℕ) : FVec F S256x64 .bf16 :=
  attend (scores (block n I.q) (block n I.k) (rotBlock n I.qr) (batchBlock n I.kr)) (block n I.v)

/-! ## The stores, and the head buffer after them -/

/-- The first `n` heads' stores, the newest first. -/
def stores (I : Inputs F) : ℕ → List (View.Piece (Elt F) S512x1024 .bf16)
  | 0 => []
  | n + 1 => ⟨window n, head I n⟩ :: stores I n

theorem mem_stores (I : Inputs F) : ∀ (n : ℕ) (p : View.Piece (Elt F) S512x1024 .bf16),
    p ∈ stores I n ↔ ∃ i < n, p = ⟨window i, head I i⟩
  | 0, p => ⟨fun h => absurd h List.not_mem_nil, fun ⟨i, hi, _⟩ => absurd hi (Nat.not_lt_zero i)⟩
  | n + 1, p => by
    rw [show stores I (n + 1) = ⟨window n, head I n⟩ :: stores I n from rfl, List.mem_cons, mem_stores I n p]
    constructor
    · rintro (h | ⟨i, hi, h⟩)
      · exact ⟨n, Nat.lt_succ_self n, h⟩
      · exact ⟨i, Nat.lt_succ_of_lt hi, h⟩
    · rintro ⟨i, hi, h⟩
      rcases Nat.lt_succ_iff_lt_or_eq.mp hi with hlt | rfl
      · exact .inr ⟨i, hlt, h⟩
      · exact .inl h

/-- The head whose window holds row `r` and column `c`. -/
abbrev headAt (y : S512x1024.Idx) : ℕ := 16 * ((y 0 : Fin 512).val / 256) + (y 1 : Fin 1024).val / 64
/-- The place of `y` in that head's result. -/
abbrev within (y : S512x1024.Idx) : S256x64.Idx := fun
  | 0 => (⟨(y 0 : Fin 512).val % 256, Nat.mod_lt _ (by decide)⟩ : Fin 256)
  | 1 => (⟨(y 1 : Fin 1024).val % 64, Nat.mod_lt _ (by decide)⟩ : Fin 64)

/-- All heads' results side by side: what the head buffer holds after the 32 stores. -/
def gathered (I : Inputs F) : FVec F S512x1024 .bf16 := fun y => head I (headAt y) (within y)

/-- A place of head `i`'s window belongs to head `i`, at the place's own coordinates. -/
theorem gathered_window (I : Inputs F) (i : ℕ) (hi : i < 32) (x : S256x64.Idx) :
    head I i x = gathered I ((window i).emb x) := by
  have h0 : (((window i).emb x 0 : Fin 512)).val = rowOf i + (x 0 : Fin 256).val := ValueKit.rect_emb_unit_val (s := S512x1024) ![rowOf i, colOf i] S256x64.size (window_inb i) x (0 : Fin 2)
  have h1 : (((window i).emb x 1 : Fin 1024)).val = colOf i + (x 1 : Fin 64).val := ValueKit.rect_emb_unit_val (s := S512x1024) ![rowOf i, colOf i] S256x64.size (window_inb i) x (1 : Fin 2)
  have hx0 : (x 0 : Fin 256).val < 256 := (x 0 : Fin 256).isLt
  have hx1 : (x 1 : Fin 64).val < 64 := (x 1 : Fin 64).isLt
  have hn : headAt ((window i).emb x) = i := by
    show 16 * (((window i).emb x 0 : Fin 512).val / 256) + ((window i).emb x 1 : Fin 1024).val / 64 = i
    rw [h0, h1]; show 16 * ((256 * (i / 16 % 2) + _) / 256) + (64 * (i % 16) + _) / 64 = i; omega
  have hw : within ((window i).emb x) = x := by
    funext a
    match a with
    | 0 => exact Fin.ext (by show ((window i).emb x 0 : Fin 512).val % 256 = _; rw [h0]; show (256 * (i / 16 % 2) + _) % 256 = _; omega)
    | 1 => exact Fin.ext (by show ((window i).emb x 1 : Fin 1024).val % 64 = _; rw [h1]; show (64 * (i % 16) + _) % 64 = _; omega)
  show _ = head I (headAt ((window i).emb x)) (within ((window i).emb x))
  rw [hn, hw]

/-- Every place lies in some head's window. -/
theorem mem_window (y : S512x1024.Idx) : headAt y < 32 ∧ y ∈ (window (headAt y)).set := by
  have h0 : (y 0 : Fin 512).val < 512 := (y 0 : Fin 512).isLt
  have h1 : (y 1 : Fin 1024).val < 1024 := (y 1 : Fin 1024).isLt
  refine ⟨by show 16 * (_ / 256) + _ / 64 < 32; omega, Rect.mem_set_unit.mpr fun a => ?_⟩
  match a with
  | 0 =>
    show 256 * (headAt y / 16 % 2) ≤ (y 0 : Fin 512).val ∧ (y 0 : Fin 512).val < 256 * (headAt y / 16 % 2) + 256
    unfold headAt; omega
  | 1 =>
    show 64 * (headAt y % 16) ≤ (y 1 : Fin 1024).val ∧ (y 1 : Fin 1024).val < 64 * (headAt y % 16) + 64
    unfold headAt; omega

/-- After the 32 stores a buffer of the head buffer's shape reads `gathered`, whatever it held. -/
theorem read_stores {κ : Kind} {sp : Space} (v : View sig κ sp S512x1024 .bf16) (f : v.ty.Contents (Elt F)) (I : Inputs F) :
    v.read (Elt F) (v.writes (Elt F) f (stores I 32)) = gathered I := by
  funext y
  refine View.read_writes_apply_of_pieces v f (gathered I) (stores I 32) ?_ y ?_
  · intro p hp x
    obtain ⟨i, hi, rfl⟩ := (mem_stores I 32 p).mp hp
    exact gathered_window I i hi x
  · exact ⟨_, (mem_stores I 32 _).mpr ⟨headAt y, (mem_window y).1, rfl⟩, (mem_window y).2⟩

end Cert.Attention

end
-- ==== Proof.Protocol.lean ====
/-
# Who waits, who signals or copies, and what each landing hands over

The mesh is 2 x 2; the device at (x, y) works with its *peer* at (x, 1 - y). Every device has seven
semaphores in the protocol, numbered by `Fin 7`:

* 0, the barrier. The peer signals it once, and so lends its three receive buffers; its owner waits
  for 1 before it copies anything.
* 1, 2, 3, the senders' ends of the three copies, in program order: the device's rows of the key
  weights, its rows of the value weights, its columns of the compressed input. Each is raised by the
  device's own copy when the source has been read, by the credit of that copy; what comes back is
  the half share of the source buffer the copy was lent.
* 4, 5, 6, the receivers' ends of the same three. Each is raised by the peer's copy when it has
  landed, and hands its owner the receive buffer holding what the peer sent.

A device waits for 0, then for 4, 5, 6, then for 1, 2, 3, once each; every cell has one round. At
launch a device owes its peer's cells 0, 4, 5, 6. A wait is allowed because everything still owed at
that moment lies at a higher level: senders' and staging semaphores at 0, the barrier at 1, the
receivers' at 2.
-/
module

public import proofs.«01_k».proof.Proof.Heads
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Attention

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resources: the pipeline's own rounds and this protocol's, one duty per round in both -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The machine at launch: any memory, all counters zero. -/
def s₀ : MemSt nD τ sig (Elt F) := ⟨m, fun _ => 0, ρ⟩

/-! ## The peer -/

set_option backward.proofsInPublic true in
/-- The other device of the same row of the mesh. -/
def peer (c : Dev nD) : Dev nD := ⟨(2 * (c.val / 2) + 1) - (c.val % 2), by have : c.val < 4 := c.isLt; show _ < 4; omega⟩

theorem peer_peer (c : Dev nD) : peer (peer c) = c := by revert c; decide

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)

/-! ## The seven semaphores -/

/-- The runtime's barrier semaphore. -/
abbrev barS : Sem sig := (SemArray.scalar (sig.barrier 0 rfl) : Sems sig S_).sem
/-- The three semaphores of an array of three. -/
abbrev sem0 (a : DmaSems sig S3) : DmaSem sig := ((a.slice (Rect.unit (s := S3) ![0] S1.size inb_S3_S1_0)).squeeze S_ squeezes_S1_S_).sem
abbrev sem1 (a : DmaSems sig S3) : DmaSem sig := ((a.slice (Rect.unit (s := S3) ![1] S1.size inb_S3_S1_1)).squeeze S_ squeezes_S1_S_).sem
abbrev sem2 (a : DmaSems sig S3) : DmaSem sig := ((a.slice (Rect.unit (s := S3) ![2] S1.size inb_S3_S1_2)).squeeze S_ squeezes_S1_S_).sem

abbrev csem : Fin 7 → SemLoc sig := fun
  | 0 => .reg barS
  | 1 => .dma (sem0 cc0_scratch7)
  | 2 => .dma (sem1 cc0_scratch7)
  | 3 => .dma (sem2 cc0_scratch7)
  | 4 => .dma (sem0 cc0_scratch8)
  | 5 => .dma (sem1 cc0_scratch8)
  | 6 => .dma (sem2 cc0_scratch8)

/-- Semaphore `k` of device `c`. -/
abbrev cell (c : Dev nD) (k : Fin 7) : GSem nD τ sig := ((c : Thread nD τ), csem k)

/-- Which of the seven a semaphore is, if any. -/
def number (s : SemLoc sig) : Option (Fin 7) := (List.finRange 7).find? fun k => csem k = s

theorem number_csem : ∀ k : Fin 7, number (csem k) = some k := by decide

theorem csem_injective : Function.Injective csem := fun k k' h => by
  have := congrArg number h
  rw [number_csem, number_csem] at this
  exact Option.some.inj this

theorem cell_eq_iff {c c' : Dev nD} {k k' : Fin 7} : cell c k = cell c' k' ↔ c = c' ∧ k = k' := by
  constructor
  · intro h
    exact ⟨congrArg (fun g : GSem nD τ sig => g.1.1) h, csem_injective (congrArg Prod.snd h)⟩
  · rintro ⟨rfl, rfl⟩; rfl

/-! ## The copies' buffers and credits -/

/-- The credit of a 64 x 1024 block of bf16, and of a 512 x 64 one. -/
abbrev creditW : ℕ := (Memref.whole cc0_scratch3 : Memref sig .tc .vmem S64x1024 .bf16).view.dmaCredit
abbrev creditC : ℕ := (Memref.whole cc0_scratch1 : Memref sig .tc .vmem S512x64 .bf16).view.dmaCredit

theorem creditW_pos : 0 < creditW := View.dmaCredit_pos _ (by decide)
theorem creditC_pos : 0 < creditC := View.dmaCredit_pos _ (by decide)

/-- What one round of each cell counts to. -/
def amt : Fin 7 → ℕ := fun | 0 => 1 | 1 => creditW | 2 => creditW | 3 => creditC | 4 => creditW | 5 => creditW | 6 => creditC

theorem amt_pos (k : Fin 7) : 0 < amt k := by
  match k with
  | 0 => exact Nat.one_pos
  | 1 => exact creditW_pos
  | 2 => exact creditW_pos
  | 3 => exact creditC_pos
  | 4 => exact creditW_pos
  | 5 => exact creditW_pos
  | 6 => exact creditC_pos

/-! ## Contents -/

/-- The staged inputs of device `c`: the only grid point's blocks of its eight arrays. -/
def xIn (c : Dev nD) : FVec F S2x256x1024 .bf16 :=
  (win0_0.blk (0 : Fin 1)).view.read (Elt F) ((s₀ m ρ).mem ((c : Thread nD τ).loc main_arg0))
def wdkvIn (c : Dev nD) : FVec F S1024x64 .bf16 :=
  (win0_1.blk (0 : Fin 1)).view.read (Elt F) ((s₀ m ρ).mem ((c : Thread nD τ).loc main_arg1))
def wukIn (c : Dev nD) : FVec F S64x1024 .bf16 :=
  (win0_2.blk (0 : Fin 1)).view.read (Elt F) ((s₀ m ρ).mem ((c : Thread nD τ).loc main_arg2))
def wuvIn (c : Dev nD) : FVec F S64x1024 .bf16 :=
  (win0_3.blk (0 : Fin 1)).view.read (Elt F) ((s₀ m ρ).mem ((c : Thread nD τ).loc main_arg3))
def wqIn (c : Dev nD) : FVec F S1024x1024 .bf16 :=
  (win0_4.blk (0 : Fin 1)).view.read (Elt F) ((s₀ m ρ).mem ((c : Thread nD τ).loc main_arg4))
def wqrIn (c : Dev nD) : FVec F S1024x512 .bf16 :=
  (win0_5.blk (0 : Fin 1)).view.read (Elt F) ((s₀ m ρ).mem ((c : Thread nD τ).loc main_arg5))
def wkrIn (c : Dev nD) : FVec F S1024x32 .bf16 :=
  (win0_6.blk (0 : Fin 1)).view.read (Elt F) ((s₀ m ρ).mem ((c : Thread nD τ).loc main_arg6))
def woIn (c : Dev nD) : FVec F S1024x1024 .bf16 :=
  (win0_7.blk (0 : Fin 1)).view.read (Elt F) ((s₀ m ρ).mem ((c : Thread nD τ).loc main_arg7))

/-- What device `c` sends: its rows of the key and of the value weights, its columns of the compressed input. -/
def keySent (c : Dev nD) : FVec F S64x1024 .bf16 := k0_pay2 (wukIn m ρ c)
def valSent (c : Dev nD) : FVec F S64x1024 .bf16 := k0_pay3 (wuvIn m ρ c)
def cmpSent (c : Dev nD) : FVec F S512x64 .bf16 := k0_pay5 (xIn m ρ c) (wdkvIn m ρ c)

/-- What device `c`'s heads read; the keys and values are its own product plus the peer's. -/
def inputs (c : Dev nD) : Inputs F where
  q := k0_pay6 (xIn m ρ c) (wqIn m ρ c)
  qr := k0_pay8 (k0_pay7 (xIn m ρ c) (wqrIn m ρ c))
  kr := k0_pay9 (k0_pay4 (xIn m ρ c)) (wkrIn m ρ c)
  k := k0_pay12 (k0_pay10 (cmpSent m ρ c) (keySent m ρ c)) (k0_pay11 (cmpSent m ρ (peer c)) (keySent m ρ (peer c)))
  v := k0_pay13 (cmpSent m ρ c) (cmpSent m ρ (peer c)) (valSent m ρ c) (valSent m ρ (peer c))

/-- Device `c`'s result: the heads side by side, times the output weights. -/
def result (c : Dev nD) : FVec F S2x256x1024 .f32 :=
  k0_pay1 (gathered (inputs m ρ c)) (k0_pay84 (woIn m ρ c)) (constant S512x1024 .f32 0x00000000#32)

/-! ## What a round hands over -/

/-- Device `c`'s buffer `b` holds `X`, at share `q`. -/
abbrev held (c : Dev nD) (b : Ref sig .tc) (q : PosShare TreeShare) (X : b.ty.Contents (Elt F)) : sProp 𝕄 :=
  ((c : Thread nD τ).loc b) ↦{q} X

/-- Device `c`'s buffer `b` holds something. -/
abbrev owned (c : Dev nD) (b : Ref sig .tc) : sProp 𝕄 := iprop(∃ f : b.ty.Contents (Elt F), held c b fullShare f)

/-- What cell `k` of device `c` hands its owner. -/
def pay (c : Dev nD) : Fin 7 → sProp 𝕄 := fun
  | 0 => iprop(owned (F := F) (peer c) cc0_scratch3 ∗ owned (F := F) (peer c) cc0_scratch5 ∗ owned (F := F) (peer c) cc0_scratch1)
  | 1 => held c cc0_scratch2 fullShare.left (keySent m ρ c)
  | 2 => held c cc0_scratch4 fullShare.left (valSent m ρ c)
  | 3 => held c cc0_scratch0 fullShare.left (cmpSent m ρ c)
  | 4 => held c cc0_scratch3 fullShare (keySent m ρ (peer c))
  | 5 => held c cc0_scratch5 fullShare (valSent m ρ (peer c))
  | 6 => held c cc0_scratch1 fullShare (cmpSent m ρ (peer c))

instance pay_storable (c : Dev nD) (k : Fin 7) : BI.Storable (upEmb : UEmb _ 𝕄) (pay m ρ c k) := by
  unfold pay; split <;> infer_instance

/-- The cells of the protocol. -/
abbrev IsCell (g : GSem nD τ sig) : Prop := g.1.2 = .tc ∧ (number g.2).isSome

/-- One round, number 0, of one duty, at each of the seven cells of each device. -/
def sched : Rounds.Schedule (GSem nD τ sig) Unit 𝕄 where
  duties g r := if r = 0 ∧ IsCell g then {()} else ∅
  unitless _ := False
  amount g _ _ := match number g.2 with | some k => amt k | none => 1
  payload g _ _ := match number g.2 with | some k => pay m ρ g.1.1 k | none => iprop(emp)
  amount_pos g _ _ _ := by
    cases number g.2 with
    | none => exact Nat.one_pos
    | some k => exact amt_pos k

instance sched_payload_storable (g : GSem nD τ sig) (r : ℕ) (d : Unit) :
    BI.Storable (upEmb : UEmb _ 𝕄) ((sched (F := F) m ρ).payload g r d) := by
  dsimp only [sched]
  split <;> infer_instance

section Rounds
variable (c : Dev nD) (k : Fin 7)

theorem duties_cell : (sched (F := F) m ρ).duties (cell c k) 0 = {()} := by
  dsimp only [sched]; exact if_pos ⟨rfl, rfl, by rw [number_csem]; rfl⟩
theorem mem_duties : () ∈ (sched (F := F) m ρ).duties (cell c k) 0 := by rw [duties_cell]; exact Finset.mem_singleton_self _
theorem duties_later (g : GSem nD τ sig) : ∀ r, 1 ≤ r → (sched (F := F) m ρ).duties g r = ∅ :=
  fun r hr => by dsimp only [sched]; exact if_neg fun h => by omega
theorem amount_cell (d : Unit) : (sched (F := F) m ρ).amount (cell c k) 0 d = amt k := by
  dsimp only [sched]; rw [number_csem]
theorem expect_cell : (sched (F := F) m ρ).expect (cell c k) 0 = amt k := by
  unfold Schedule.expect Schedule.amountOf; rw [duties_cell, Finset.sum_singleton, amount_cell]
theorem payload_cell (d : Unit) : (sched (F := F) m ρ).payload (cell c k) 0 d = pay m ρ c k := by
  dsimp only [sched]; rw [number_csem]
theorem rest_cell : bigSep ((sched (F := F) m ρ).duties (cell c k) 0 \ ∅) (fun d => (sched (F := F) m ρ).payload (cell c k) 0 d) = pay m ρ c k := by
  rw [Finset.sdiff_empty, duties_cell, bigSep_singleton, payload_cell]

end Rounds

/-! ## What is owed, and the levels -/

/-- Device `c` owing its peer's cells of a list, the first of them paid first. -/
def owing (c : Dev nD) : List (Fin 7) → CellTallies nD τ sig Unit
  | [] => 0
  | k :: l => owing c l + tallyAt (cell (peer c) k) () (amt k)

/-- At launch. -/
def O₀ (c : Dev nD) : CellTallies nD τ sig Unit := owing c [0, 4, 5, 6]

theorem owing_pos {c : Dev nD} {g : GSem nD τ sig} {u : Unit} : ∀ {l : List (Fin 7)}, 0 < owing c l g u → ∃ k ∈ l, g = cell (peer c) k
  | [], h => absurd h (Nat.lt_irrefl 0)
  | k :: l, h => by
    unfold owing at h
    rw [Pi.add_apply, Finsupp.add_apply, tallyAt_apply] at h
    by_cases hg : g = cell (peer c) k ∧ u = ()
    · exact ⟨k, List.mem_cons_self, hg.1⟩
    · rw [if_neg hg, Nat.add_zero] at h
      obtain ⟨k', hk', e⟩ := owing_pos h
      exact ⟨k', List.mem_cons_of_mem _ hk', e⟩

/-- What device `d` owes cell `k` of device `c`. -/
theorem owing_cell (d c : Dev nD) (k : Fin 7) : ∀ l : List (Fin 7), owing d l (cell c k) () = if d = peer c then l.count k * amt k else 0
  | [] => by rw [List.count_nil, Nat.zero_mul, ite_self]; rfl
  | k' :: l => by
    unfold owing
    rw [Pi.add_apply, Finsupp.add_apply, tallyAt_apply, owing_cell d c k l]
    by_cases hd : d = peer c
    · subst hd
      rw [peer_peer, if_pos rfl, if_pos rfl]
      by_cases hk : k' = k
      · subst hk; rw [if_pos ⟨rfl, rfl⟩, List.count_cons_self, Nat.succ_mul]
      · rw [if_neg fun h => hk (cell_eq_iff.mp h.1).2.symm, List.count_cons_of_ne hk, Nat.add_zero]
    · rw [if_neg hd, if_neg hd, if_neg fun h => hd (by rw [(cell_eq_iff.mp h.1).1, peer_peer])]

/-- Every TensorCore's semaphores have levels. -/
def L (g : GSem nD τ sig) : Finset Unit := if g.1.2 = .tc then {()} else ∅
/-- The levels of the seven; any other semaphore is at 0. -/
def levelOf : Option (Fin 7) → ℕ
  | some 0 => 1
  | some 4 => 2
  | some 5 => 2
  | some 6 => 2
  | _ => 0
def lv (g : GSem nD τ sig) (_ : Unit) : ℕ := levelOf (number g.2)

theorem L_of_ne (g : GSem nD τ sig) (h : g.1.2 ≠ .tc) : L g = ∅ := if_neg h
theorem L_tc (c : Dev nD) (sm : SemLoc sig) : L ((c : Thread nD τ), sm) = {()} := if_pos rfl

/-- A wait at a semaphore below everything the device still owes is allowed. -/
theorem mayWait (c : Dev nD) (sm : SemLoc sig) (l : List (Fin 7)) (h : ∀ k ∈ l, levelOf (number sm) < levelOf (some k)) :
    (levAts L lv : sProp 𝕄) ⊢ MayWait (c : Thread nD τ) sm () (owing c l) :=
  MayOwe.of_cut (L := L) (lev := lv) (levelOf (number sm))
    (fun p hp => by rw [Finset.mem_singleton.mp hp, L_tc]; exact Finset.mem_singleton_self _)
    (fun g u hg => by obtain ⟨k, _, rfl⟩ := owing_pos hg; rw [L_tc]; exact Finset.mem_singleton_self _)
    (fun p hp => by rw [Finset.mem_singleton.mp hp]; exact Nat.le_refl _)
    (fun g u hg => by obtain ⟨k, hk, rfl⟩ := owing_pos hg; show _ < levelOf (number (csem k)); rw [number_csem]; exact h k hk)

/-! ## What a device starts from -/

/-- The device that pays the duty of cell `k` of device `c`: itself at a sender's end, the peer elsewhere. -/
def payer (c : Dev nD) : Fin 7 → Dev nD := fun | 1 => c | 2 => c | 3 => c | _ => peer c

theorem payer_payer (c : Dev nD) (k : Fin 7) : payer (payer c k) k = c := by
  fin_cases k <;> first | rfl | exact peer_peer c

/-- The facts every device may use: each cell's invariant, under the names `K`, and that its round 0 is open. -/
def records (K : Dev nD × Fin 7 → ℕ) : sProp 𝕄 :=
  iprop((bigSep Finset.univ fun ck : Dev nD × Fin 7 => cellInv EX (sched m ρ) (K ck) (cell ck.1 ck.2))
    ∗ bigSep Finset.univ fun ck : Dev nD × Fin 7 => reached EX (cell ck.1 ck.2) 0)

instance records_persistent (K : Dev nD × Fin 7 → ℕ) : BI.Persistent (records m ρ K) := by unfold records; infer_instance

theorem records_inv (K : Dev nD × Fin 7 → ℕ) (c : Dev nD) (k : Fin 7) : records m ρ K ⊢ cellInv EX (sched m ρ) (K (c, k)) (cell c k) :=
  sep_elim_left.trans (bigSep_elim (Φ := fun ck : Dev nD × Fin 7 => cellInv EX (sched m ρ) (K ck) (cell ck.1 ck.2)) (Finset.mem_univ (c, k)))
theorem records_reached (K : Dev nD × Fin 7 → ℕ) (c : Dev nD) (k : Fin 7) : records m ρ K ⊢ reached EX (cell c k) 0 :=
  sep_elim_right.trans (bigSep_elim (Φ := fun ck : Dev nD × Fin 7 => (reached EX (cell ck.1 ck.2) 0 : sProp 𝕄)) (Finset.mem_univ (c, k)))

/-- Its places at its seven cells, and the tokens of the seven duties it pays. -/
def places (c : Dev nD) : sProp 𝕄 := bigSep Finset.univ fun k : Fin 7 => atPos EX (cell c k) 0 ∅ 0
def dues (c : Dev nD) : sProp 𝕄 := bigSep Finset.univ fun k : Fin 7 => dutyTok EX (cell (payer c k) k) 0 ()

def ghost (K : Dev nD × Fin 7 → ℕ) (c : Dev nD) : sProp 𝕄 := iprop(records m ρ K ∗ places (F := F) c ∗ dues (F := F) c)

/-- The credit the peer owes it. -/
def credits (c : Dev nD) : sProp 𝕄 :=
  iprop(cred (tallyAt (cell c 0) () (amt 0)) ∗ cred (tallyAt (cell c 4) () (amt 4)) ∗ cred (tallyAt (cell c 5) () (amt 5))
    ∗ cred (tallyAt (cell c 6) () (amt 6)))

def start (c : Dev nD) : sProp 𝕄 := iprop((∃ K, ghost m ρ K c) ∗ credits (F := F) c ∗ levAts L lv)

/-- The seven scratch buffers, each holding something. -/
def scratch (c : Dev nD) : sProp 𝕄 :=
  iprop(owned (F := F) c cc0_scratch0 ∗ owned (F := F) c cc0_scratch1 ∗ owned (F := F) c cc0_scratch2 ∗ owned (F := F) c cc0_scratch3
    ∗ owned (F := F) c cc0_scratch4 ∗ owned (F := F) c cc0_scratch5 ∗ owned (F := F) c cc0_scratch6)

def Φ₀ (c : Dev nD) : sProp 𝕄 := iprop(start m ρ c ∗ scratch (F := F) c)
/-- After the body: the scratch buffers, and the seven cells closed with their counters at zero. -/
def Φ₁ (c : Dev nD) : sProp 𝕄 := iprop(scratch (F := F) c ∗ bigSep Finset.univ fun k : Fin 7 => semVal (cell c k) 0)

/-- The pipeline's data: the inputs as staged, the result, and what the body starts from and leaves. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => wdkvIn m ρ c
    | ⟨2, _⟩ => wukIn m ρ c
    | ⟨3, _⟩ => wuvIn m ρ c
    | ⟨4, _⟩ => wqIn m ρ c
    | ⟨5, _⟩ => wqrIn m ρ c
    | ⟨6, _⟩ => wkrIn m ρ c
    | ⟨7, _⟩ => woIn m ρ c
    | ⟨8, _⟩ => result m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

end Cert.Attention

end
-- ==== Proof.Run.lean ====
/-
# The kernel's body, with its 32 heads as one loop

The printed body spells the heads out one by one, cut into parts at arbitrary places. Here it is
written once more, on the buffers it is called with and with the heads as a recursion over their
number (`storeHeads`); `body_eq` says that it is the same program.
-/
module

public import proofs.«01_k».proof.Proof.Protocol

@[expose] public section

noncomputable section

namespace Cert.Attention

open Cert.KernelIdeal Cert.KernelIdeal.Gen
open Idealize.ShloMosaic
open Idealize.ShloMosaic.TcCoe
open Idealize.SL Idealize.SL.Sem

variable {F : FTy → Type} [FloatOps F] [Named F]

/-! ## The buffers -/

abbrev xM : Memref sig .tc .vmem S2x256x1024 .bf16 := Memref.whole cc0_stg0_0
abbrev wdkvM : Memref sig .tc .vmem S1024x64 .bf16 := Memref.whole cc0_stg1_0
abbrev wukM : Memref sig .tc .vmem S64x1024 .bf16 := Memref.whole cc0_stg2_0
abbrev wuvM : Memref sig .tc .vmem S64x1024 .bf16 := Memref.whole cc0_stg3_0
abbrev wqM : Memref sig .tc .vmem S1024x1024 .bf16 := Memref.whole cc0_stg4_0
abbrev wqrM : Memref sig .tc .vmem S1024x512 .bf16 := Memref.whole cc0_stg5_0
abbrev wkrM : Memref sig .tc .vmem S1024x32 .bf16 := Memref.whole cc0_stg6_0
abbrev woM : Memref sig .tc .vmem S1024x1024 .bf16 := Memref.whole cc0_stg7_0
abbrev outM : Memref sig .tc .vmem S2x256x1024 .f32 := Memref.whole cc0_stg8_0
/-- The compressed input: what is sent, what is received; -/
abbrev cmpM : Memref sig .tc .vmem S512x64 .bf16 := Memref.whole cc0_scratch0
abbrev cmpR : Memref sig .tc .vmem S512x64 .bf16 := Memref.whole cc0_scratch1
/-- the key weights; -/
abbrev keyM : Memref sig .tc .vmem S64x1024 .bf16 := Memref.whole cc0_scratch2
abbrev keyR : Memref sig .tc .vmem S64x1024 .bf16 := Memref.whole cc0_scratch3
/-- the value weights; -/
abbrev valM : Memref sig .tc .vmem S64x1024 .bf16 := Memref.whole cc0_scratch4
abbrev valR : Memref sig .tc .vmem S64x1024 .bf16 := Memref.whole cc0_scratch5
/-- the heads' results. -/
abbrev headM : Memref sig .tc .vmem S512x1024 .bf16 := Memref.whole cc0_scratch6

/-! ## The loop over the heads -/

theorem window_packed (n : ℕ) : (window n).PackedRows (EltTy.packing .bf16) := by
  refine .inr ⟨by decide, rfl, .inl ⟨?_, ?_⟩⟩
  · show 2 ∣ 256 * (n / 16 % 2)
    omega
  · show 2 ∣ 256
    omega

/-- Heads `n`, `n + 1`, …, `c` of them: each reads its window (the value is not used) and stores its result there. -/
def storeHeads (I : Inputs F) : ℕ → ℕ → Prog (TpuEff nD τ sig (Elt F) Λ₀ .tc) PUnit
  | _, 0 => pure ⟨⟩
  | n, c + 1 => do
    let _ ← Prog.lift (.load headM (window n).toLoadRect (View.loadsAt_vmem h_S256x64))
    Prog.lift (.store headM (window n) (head I n) Finset.univ
      (View.stores_vmem h_S256x64 ((Memref.isWhole_whole cc0_scratch6).storeExact_slice rfl _ (window_packed n)) (fun _ => rfl)) (.inl rfl))
    storeHeads I (n + 1) c

/-! ## The whole buffers' rectangles -/

abbrev allX : Rect S2x256x1024 := Rect.unit (s := S2x256x1024) ![0, 0, 0] S2x256x1024.size inb_S2x256x1024_S2x256x1024_0_0_0
abbrev allD : Rect S1024x64 := Rect.unit (s := S1024x64) ![0, 0] S1024x64.size inb_S1024x64_S1024x64_0_0
abbrev allU : Rect S64x1024 := Rect.unit (s := S64x1024) ![0, 0] S64x1024.size inb_S64x1024_S64x1024_0_0
abbrev allQ : Rect S1024x1024 := Rect.unit (s := S1024x1024) ![0, 0] S1024x1024.size inb_S1024x1024_S1024x1024_0_0
abbrev allR : Rect S1024x512 := Rect.unit (s := S1024x512) ![0, 0] S1024x512.size inb_S1024x512_S1024x512_0_0
abbrev allK : Rect S1024x32 := Rect.unit (s := S1024x32) ![0, 0] S1024x32.size inb_S1024x32_S1024x32_0_0
abbrev allC : Rect S512x64 := Rect.unit (s := S512x64) ![0, 0] S512x64.size inb_S512x64_S512x64_0_0
abbrev allH : Rect S512x1024 := Rect.unit (s := S512x1024) ![0, 0] S512x1024.size inb_S512x1024_S512x1024_0_0

/-! ## The body -/

/-- Signal the peer, wait for its signal, and send it the key weights, the value weights and the compressed input. -/
def sendAll (d : Dev nD) : Prog (TpuEff nD τ sig (Elt F) Λ₀ .tc) (FVec F S2x256x1024 .bf16) := do
  semSignalWord (⟨k0_dev1 d, k0_dev1_lt d⟩ : Dev nD) barS 1#32
  semWaitWord barS 1#32
  let wuk ← Prog.lift (.load wukM allU.toLoadRect (View.loadsAt_vmem h_S64x1024))
  let _ ← Prog.lift (.load keyM allU.toLoadRect (View.loadsAt_vmem h_S64x1024))
  Prog.lift (.store keyM allU (k0_pay2 wuk) Finset.univ (View.stores_vmem h_S64x1024 ((Memref.isWhole_whole cc0_scratch2).storeExact_slice rfl _ packedbf16_S64x1024_S64x1024_0_0) (fun _ => rfl)) (.inl rfl))
  let wuv ← Prog.lift (.load wuvM allU.toLoadRect (View.loadsAt_vmem h_S64x1024))
  let _ ← Prog.lift (.load valM allU.toLoadRect (View.loadsAt_vmem h_S64x1024))
  Prog.lift (.store valM allU (k0_pay3 wuv) Finset.univ (View.stores_vmem h_S64x1024 ((Memref.isWhole_whole cc0_scratch4).storeExact_slice rfl _ packedbf16_S64x1024_S64x1024_0_0) (fun _ => rfl)) (.inl rfl))
  Prog.lift (.enqueueDma keyM (.remote (Dev.tc (⟨k0_dev2 d, k0_dev2_lt d⟩ : Dev nD)) keyR (.dma (sem0 cc0_scratch7))) (.dma (sem0 cc0_scratch8)) (Memref.isWhole_whole cc0_scratch2).wordExact (Memref.isWhole_whole cc0_scratch3).wordExact ⟨⟨rfl, Or.inl rfl⟩, trivial⟩)
  Prog.lift (.enqueueDma valM (.remote (Dev.tc (⟨k0_dev3 d, k0_dev3_lt d⟩ : Dev nD)) valR (.dma (sem1 cc0_scratch7))) (.dma (sem1 cc0_scratch8)) (Memref.isWhole_whole cc0_scratch4).wordExact (Memref.isWhole_whole cc0_scratch5).wordExact ⟨⟨rfl, Or.inl rfl⟩, trivial⟩)
  let x ← Prog.lift (.load xM allX.toLoadRect (View.loadsAt_vmem h_S2x256x1024))
  let wdkv ← Prog.lift (.load wdkvM allD.toLoadRect (View.loadsAt_vmem h_S1024x64))
  let _ ← Prog.lift (.load cmpM allC.toLoadRect (View.loadsAt_vmem h_S512x64))
  Prog.lift (.store cmpM allC (k0_pay5 x wdkv) Finset.univ (View.stores_vmem h_S512x64 ((Memref.isWhole_whole cc0_scratch0).storeExact_slice rfl _ packedbf16_S512x64_S512x64_0_0) (fun _ => rfl)) (.inl rfl))
  Prog.lift (.enqueueDma cmpM (.remote (Dev.tc (⟨k0_dev4 d, k0_dev4_lt d⟩ : Dev nD)) cmpR (.dma (sem2 cc0_scratch7))) (.dma (sem2 cc0_scratch8)) (Memref.isWhole_whole cc0_scratch0).wordExact (Memref.isWhole_whole cc0_scratch1).wordExact ⟨⟨rfl, Or.inl rfl⟩, trivial⟩)
  pure x

/-- Read the query and rotary weights, wait for what the peer sent, and read everything exchanged. -/
def receiveAll (x : FVec F S2x256x1024 .bf16) : Prog (TpuEff nD τ sig (Elt F) Λ₀ .tc) (Inputs F) := do
  let wq ← Prog.lift (.load wqM allQ.toLoadRect (View.loadsAt_vmem h_S1024x1024))
  let wqr ← Prog.lift (.load wqrM allR.toLoadRect (View.loadsAt_vmem h_S1024x512))
  let wkr ← Prog.lift (.load wkrM allK.toLoadRect (View.loadsAt_vmem h_S1024x32))
  Prog.lift (.waitDma2 (sem0 cc0_scratch8) keyM keyR (Memref.isWhole_whole cc0_scratch2).wordExact (Memref.isWhole_whole cc0_scratch3).wordExact)
  Prog.lift (.waitDma2 (sem1 cc0_scratch8) valM valR (Memref.isWhole_whole cc0_scratch4).wordExact (Memref.isWhole_whole cc0_scratch5).wordExact)
  Prog.lift (.waitDma2 (sem2 cc0_scratch8) cmpM cmpR (Memref.isWhole_whole cc0_scratch0).wordExact (Memref.isWhole_whole cc0_scratch1).wordExact)
  let own ← Prog.lift (.load cmpM allC.toLoadRect (View.loadsAt_vmem h_S512x64))
  let other ← Prog.lift (.load cmpR allC.toLoadRect (View.loadsAt_vmem h_S512x64))
  let key ← Prog.lift (.load keyM allU.toLoadRect (View.loadsAt_vmem h_S64x1024))
  let keyO ← Prog.lift (.load keyR allU.toLoadRect (View.loadsAt_vmem h_S64x1024))
  let val ← Prog.lift (.load valM allU.toLoadRect (View.loadsAt_vmem h_S64x1024))
  let valO ← Prog.lift (.load valR allU.toLoadRect (View.loadsAt_vmem h_S64x1024))
  pure ⟨k0_pay6 x wq, k0_pay8 (k0_pay7 x wqr), k0_pay9 (k0_pay4 x) wkr, k0_pay12 (k0_pay10 own key) (k0_pay11 other keyO), k0_pay13 own other val valO⟩

/-- Multiply the heads by the output weights, store the result, and wait until the sources have been read. -/
def finish : Prog (TpuEff nD τ sig (Elt F) Λ₀ .tc) PUnit := do
  let h ← Prog.lift (.load headM allH.toLoadRect (View.loadsAt_vmem h_S512x1024))
  let wo ← Prog.lift (.load woM allQ.toLoadRect (View.loadsAt_vmem h_S1024x1024))
  let _ ← Prog.lift (.load outM allX.toLoadRect (View.loadsAt_vmem h_S2x256x1024))
  Prog.lift (.store outM allX (k0_pay1 h (k0_pay84 wo) (constant S512x1024 .f32 0x00000000#32)) Finset.univ (View.stores_vmem_bits_univ h_S2x256x1024 rfl) (.inl rfl))
  Prog.lift (.waitDma2 (sem0 cc0_scratch7) keyR keyM (Memref.isWhole_whole cc0_scratch3).wordExact (Memref.isWhole_whole cc0_scratch2).wordExact)
  Prog.lift (.waitDma2 (sem1 cc0_scratch7) valR valM (Memref.isWhole_whole cc0_scratch5).wordExact (Memref.isWhole_whole cc0_scratch4).wordExact)
  Prog.lift (.waitDma2 (sem2 cc0_scratch7) cmpR cmpM (Memref.isWhole_whole cc0_scratch1).wordExact (Memref.isWhole_whole cc0_scratch0).wordExact)
  pure ⟨⟩

/-- The body. -/
def run : Prog (TpuEff nD τ sig (Elt F) Λ₀ .tc) PUnit := do
  let d ← Prog.lift .deviceId
  let x ← sendAll d
  let I ← receiveAll x
  storeHeads I 0 32
  finish

set_option maxRecDepth 65536 in
theorem body_eq : cc0_body (F := F) xM (Memref.isWhole_whole _) wdkvM (Memref.isWhole_whole _) wukM (Memref.isWhole_whole _)
    wuvM (Memref.isWhole_whole _) wqM (Memref.isWhole_whole _) wqrM (Memref.isWhole_whole _) wkrM (Memref.isWhole_whole _)
    woM (Memref.isWhole_whole _) outM (Memref.isWhole_whole _) cmpM (Memref.isWhole_whole _) cmpR (Memref.isWhole_whole _)
    keyM (Memref.isWhole_whole _) keyR (Memref.isWhole_whole _) valM (Memref.isWhole_whole _) valR (Memref.isWhole_whole _)
    headM (Memref.isWhole_whole _) cc0_scratch7 cc0_scratch8 = run := rfl

end Cert.Attention

end
-- ==== Proof.Rules.lean ====
/-
# One rule for each kind of step of the body

Reading and writing a whole buffer, waiting for a cell, copying to the peer, and the loop over the
heads: each proved once, for any buffer or cell of the kind.
-/
module

public import proofs.«01_k».proof.Proof.Run

@[expose] public section

noncomputable section

namespace Cert.Attention

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem bigSep_seven (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem zero2 : (![0, 0] : Fin 2 → ℕ) = fun _ => 0 := funext fun a => by fin_cases a <;> rfl
theorem zero3 : (![0, 0, 0] : Fin 3 → ℕ) = fun _ => 0 := funext fun a => by fin_cases a <;> rfl

variable (c : Dev nD)

/-- The weakest precondition on device `c`. -/
abbrev on {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Writing through a memref that is buffer `b`, when it leaves `Y`. -/
theorem wp_put (b : Ref sig .tc) (X Y : b.ty.Contents (Elt F)) {cs : CoreSpace} {s : Shape} {e : EltTy} {M : Memref sig .tc cs s e} {r : Rect s}
    {w : r.shape.Idx → Elt F e} {hx : (M.access r).Stores Finset.univ} {hm : Finset.univ = Finset.univ ∨ ∀ a, r.stride a = 1}
    {X' Y' : Buf (Elt F) ((M.access r).loc (c : Thread nD τ))} (hY : (M.access r).write (Elt F) X' w Finset.univ = Y')
    (hb : held c b fullShare X = ((M.access r).loc (c : Thread nD τ) ↦{fullShare} X'))
    (hb' : held c b fullShare Y = ((M.access r).loc (c : Thread nD τ) ↦{fullShare} Y'))
    {α : Type} {k : PUnit → Prog (TpuEff nD τ sig (Elt F) Λ₀ .tc) α} {Q : α → sProp 𝕄} :
    held c b fullShare X ⊢ iprop((held c b fullShare Y -∗ on c (k ⟨⟩) Q) -∗ on c (.op (.store M r w Finset.univ hx hm) k) Q) := by
  subst hY
  rw [hb, hb']
  exact wp_store 𝒱₀ (c : Thread nD τ) none Set.univ (Finset.subset_univ _)

/-- Reading through a memref, when it gives `Y`, at any share. -/
theorem wp_get {cs : CoreSpace} {s : Shape} {e : EltTy} {M : Memref sig .tc cs s e} {r : LoadRect s} {hl : M.view.LoadsAt r} {q : PosShare TreeShare}
    {X : Buf (Elt F) (M.view.loc (c : Thread nD τ))} {Y : r.shape.Idx → Elt F e} (hY : M.view.readAt (Elt F) r X = Y)
    {α : Type} {k : (r.shape.Idx → Elt F e) → Prog (TpuEff nD τ sig (Elt F) Λ₀ .tc) α} {Q : α → sProp 𝕄} :
    (M.view.loc (c : Thread nD τ) ↦{q} X) ⊢ iprop(((M.view.loc (c : Thread nD τ) ↦{q} X) -∗ on c (k Y) Q) -∗ on c (.op (.load M r hl) k) Q) := by
  subst hY
  exact wp_load 𝒱₀ (c : Thread nD τ) none Set.univ (Finset.subset_univ _)

/-- A whole buffer is its two half shares. -/
theorem halves (b : Ref sig .tc) (X : b.ty.Contents (Elt F)) :
    (held c b fullShare X : sProp 𝕄) ⊣⊢ iprop(held c b fullShare.left X ∗ held c b fullShare.right X) := by
  exact pointsTo_share (PosShare.mem_left_op_right fullShare)

/-- The heads from `n` on, `j` of them: their stores join those already made. -/
theorem wp_heads (I : Inputs F) (f : FVec F S512x1024 .bf16) {α : Type} {k : PUnit → Prog (TpuEff nD τ sig (Elt F) Λ₀ .tc) α} {Q : α → sProp 𝕄}
    (j : ℕ) : ∀ n : ℕ, (headM.view.loc (c : Thread nD τ) ↦{fullShare} headM.view.writes (Elt F) f (stores I n))
      ⊢ iprop(((headM.view.loc (c : Thread nD τ) ↦{fullShare} headM.view.writes (Elt F) f (stores I (n + j))) -∗ on c (k ⟨⟩) Q)
        -∗ on c (storeHeads I n j >>= k) Q) := by
  induction j with
  | zero =>
    intro n
    iintro H Hk
    iapply Hk
    iexact H
  | succ j ih =>
    intro n
    have ih := ih (n + 1)
    rw [show n + 1 + j = n + (j + 1) by omega, show stores I (n + 1) = ⟨window n, head I n⟩ :: stores I n from rfl] at ih
    simp only [storeHeads, Prog.lift, Prog.bind_op, Prog.bind_ret]
    iintro H Hk
    iapply (wp_load 𝒱₀ (c : Thread nD τ) none Set.univ (m := headM) (S := Finset.univ) (f := headM.view.writes (Elt F) f (stores I n)) (Finset.subset_univ _)) $$ H
    iintro H
    iapply (wp_store_writes 𝒱₀ (c : Thread nD τ) none Set.univ (m := headM) (r := window n) (w := head I n) (S := Finset.univ) (f := f) (L := stores I n)
      (Finset.subset_univ _)) $$ H
    iintro H
    iapply ih $$ H
    iexact Hk

/-- The whole loop: the head buffer holds the heads' results. -/
theorem wp_allHeads (I : Inputs F) {α : Type} {k : PUnit → Prog (TpuEff nD τ sig (Elt F) Λ₀ .tc) α} {Q : α → sProp 𝕄} :
    owned c cc0_scratch6 ⊢ iprop((held c cc0_scratch6 fullShare (gathered I) -∗ on c (k ⟨⟩) Q) -∗ on c (storeHeads I 0 32 >>= k) Q) := by
  iintro ⟨%f, Hf⟩
  have H := wp_heads (F := F) c I f (k := k) (Q := Q) 32 0
  rw [show headM.view.writes (Elt F) f (stores I (0 + 32)) = gathered I from read_stores headM.view f I,
    show headM.view.writes (Elt F) f (stores I 0) = f from rfl] at H
  iapply H $$ Hf

variable (K : Dev nD × Fin 7 → ℕ)

/-- A device waits for one of its cells, everything it still owes being at higher levels: the round's payload comes with
    it, and the cell is closed. -/
theorem wp_await (n : Fin 7) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (csem n) (amt n) Kt)
    (l : List (Fin 7)) (hl : ∀ k ∈ l, levelOf (some n) < levelOf (some k)) {W : Waits sig Unit}
    {α : Type} {k : PUnit → Prog (TpuEff nD τ sig (Elt F) Λ₀ .tc) α} {Q : α → sProp 𝕄} :
    iprop(records m ρ K ∗ levAts L lv ∗ owes (c : Thread nD τ) (owing c l) W ∗ cred (tallyAt (cell c n) () (amt n)) ∗ atPos EX (cell c n) 0 ∅ 0)
      ⊢ iprop(((∃ W : Waits sig Unit, owes (c : Thread nD τ) (owing c l) W) ∗ semVal (cell c n) 0 ∗ pay m ρ c n -∗ on c (k ⟨⟩) Q)
        -∗ on c (.op w k) Q) := by
  iintro ⟨#HR, #HL, HO, Hc, Hat⟩ Hk
  ihave #HI := (records_inv m ρ K c n) $$ HR
  iapply (Rounds.wp_wait_rest_token 𝒱₀ EX (sched m ρ) (c : Thread nD τ) none (κ := K (c, n)) hw (Set.mem_univ _) () (O := owing c l) (W := W)
    (R := 0) (m := 0) (T := ∅) (by rw [Nat.zero_add, expect_cell])) $$ [HO Hc Hat]
  · isplitr; · iexact HI
    isplitl [Hc]; · iexact Hc
    isplitl [HO]; · iexact HO
    isplitr; · iapply (mayWait (F := F) c (csem n) l (by rw [number_csem]; exact hl)); iexact HL
    iexact Hat
  iintro ⟨HO, Hat, -, Hp⟩
  ihave Hp := (Entails.of_eq (rest_cell m ρ c n)) $$ Hp
  imod (Rounds.cell_close EX (sched m ρ) (Set.mem_univ (K (c, n))) (fun h => h) (R := 0 + 1) (duties_later m ρ (cell c n))) $$ [Hat] with Hz
  · isplitr; · iexact HI
    iexact Hat
  iapply Hk
  isplitl [HO]; · iexists _; iexact HO
  isplitl [Hz] <;> iassumption

/-- A device copies to its peer, paying its own cell `n₁` and the peer's cell `n₂`. The source is lent at the share the
    first cell hands back, and what lands is what the second hands over. -/
theorem wp_copy (d : Dev nD) (hd : d = peer c) (n₁ n₂ : Fin 7) {s : Shape} {e : EltTy} (N : ℕ)
    {src dst : Memref sig .tc .vmem s e} {hsc : (dst : Memref sig (Dev.tc d : Thread nD τ).2.kind .vmem s e).view.ref.isScScratch = false}
    {hsrc : src.view.WordExact} {hdst : dst.view.WordExact}
    {hsem : DmaTarget.Typed .vmem (csem n₂) (.remote (Dev.tc d : Thread nD τ) (dst : Memref sig (Dev.tc d : Thread nD τ).2.kind .vmem s e) (csem n₁) hsc)}
    (hN : dst.view.amount (csem n₂) = N) (a₁ : amt n₁ = N) (a₂ : amt n₂ = N) (l : List (Fin 7)) {W : Waits sig Unit} {q : PosShare TreeShare}
    (fs : Buf (Elt F) (src.view.loc (c : Thread nD τ))) (fd : Buf (Elt F) (dst.view.loc (peer c : Thread nD τ)))
    (p₁ : (src.view.loc (c : Thread nD τ) ↦[src.view.set]{q} fs) ⊢ pay m ρ c n₁)
    (p₂ : (dst.view.loc (peer c : Thread nD τ) ↦[dst.view.set]{fullShare} (dst.view.write (Elt F) fd (src.view.read (Elt F) fs) Finset.univ)) ⊢ pay m ρ (peer c) n₂)
    {α : Type} {k : PUnit → Prog (TpuEff nD τ sig (Elt F) Λ₀ .tc) α} {Q : α → sProp 𝕄} :
    iprop(records m ρ K ∗ (src.view.loc (c : Thread nD τ) ↦[src.view.set]{q} fs) ∗ (dst.view.loc (peer c : Thread nD τ) ↦[dst.view.set]{fullShare} fd)
        ∗ owes (c : Thread nD τ) (owing c (n₂ :: l)) W ∗ dutyTok EX (cell c n₁) 0 () ∗ dutyTok EX (cell (peer c) n₂) 0 ())
      ⊢ iprop(((cred (tallyAt (cell c n₁) () (amt n₁)) ∗ owes (c : Thread nD τ) (owing c l) W) -∗ on c (k ⟨⟩) Q)
        -∗ on c (.op (.enqueueDma src (.remote (Dev.tc d : Thread nD τ) (dst : Memref sig (Dev.tc d : Thread nD τ).2.kind .vmem s e) (csem n₁) hsc)
            (csem n₂) hsrc hdst hsem) k) Q) := by
  subst hd
  rw [a₁]
  iintro ⟨#HR, Hs, Hd, HO, Ht₁, Ht₂⟩
  ihave #HI₁ := (records_inv m ρ K c n₁) $$ HR
  ihave #HI₂ := (records_inv m ρ K (peer c) n₂) $$ HR
  ihave #Hr₁ := (records_reached m ρ K c n₁) $$ HR
  ihave #Hr₂ := (records_reached m ρ K (peer c) n₂) $$ HR
  have hO : owing c (n₂ :: l) = owing c l + tallyAt (cell (peer c) n₂) () N := by rw [← a₂]; rfl
  iapply (Rounds.wp_send_pointsTo 𝒱₀ EX (sched m ρ) (c : Thread nD τ) none (κ₁ := K (c, n₁)) (κ₂ := K (peer c, n₂))
    (r₁ := 0) (r₂ := 0) (d₁ := ()) (d₂ := ()) (fd := fd) (mem_duties m ρ c n₁) (mem_duties m ρ (peer c) n₂)
    () () N hN ((amount_cell m ρ c n₁ ()).trans a₁) ((amount_cell m ρ (peer c) n₂ ()).trans a₂) (owing c l)
    hO (W := W)
    (by rw [payload_cell]; exact p₁) (by rw [payload_cell]; exact p₂))
  isplitr; · iexact HI₁
  isplitr; · iexact HI₂
  isplitl [Hs]; · iexact Hs
  isplitl [Hd]; · iexact Hd
  isplitl [HO]; · iexact HO
  isplitl [Ht₁]; · iexact Ht₁
  isplitr; · iexact Hr₁
  isplitl [Ht₂]; · iexact Ht₂
  iexact Hr₂

end Cert.Attention

end
-- ==== Proof.Body.lean ====
/-
# The body, from what a device starts with to its result

One rule per step, in program order. While a copy is under way the device keeps the other half
share of its source, which is enough to read it; the wait for the copy's sending end joins the two.
-/
module

public import proofs.«01_k».proof.Proof.Rules

@[expose] public section

noncomputable section

namespace Cert.Attention

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- Reading or overwriting a whole buffer, through the rectangle of its whole shape. -/
theorem read_all (b : Ref sig .tc) {off : Fin b.ty.shape.rank → ℕ} (h : off = fun _ => 0) {inb} (X : b.ty.Contents (Elt F)) :
    (Memref.whole b : Memref sig .tc _ _ _).view.readAt (Elt F) (Rect.unit off b.ty.shape.size inb).toLoadRect X = X :=
  Memref.readAt_unit_zero (Elt F) b h inb X
theorem write_all (b : Ref sig .tc) {off : Fin b.ty.shape.rank → ℕ} (h : off = fun _ => 0) {inb} (X w : b.ty.Contents (Elt F)) :
    ((Memref.whole b).access (Rect.unit off b.ty.shape.size inb) : View sig .tc _ _ _).write (Elt F) X w Finset.univ = w :=
  Memref.write_access_unit_zero_univ (Elt F) b h inb X w

/-- A whole buffer as a copy takes it, -/
theorem lent (c : Dev nD) (b : Ref sig .tc) (q : PosShare TreeShare) (X : b.ty.Contents (Elt F)) :
    ((Memref.whole b : Memref sig .tc _ _ _).view.loc (c : Thread nD τ) ↦[(Memref.whole b : Memref sig .tc _ _ _).view.set]{q} X : sProp 𝕄) = held c b q X := by
  show ((c : Thread nD τ).loc b ↦[(View.whole b : View sig .tc _ _ _).set]{q} X : sProp 𝕄) = _
  rw [View.set_whole]
/-- and what lands in a whole buffer is what was sent. -/
theorem landed (c : Dev nD) (b : Ref sig .tc) (X Y : b.ty.Contents (Elt F)) :
    ((Memref.whole b : Memref sig .tc _ _ _).view.loc (c : Thread nD τ) ↦[(Memref.whole b : Memref sig .tc _ _ _).view.set]{fullShare}
      (Memref.whole b : Memref sig .tc _ _ _).view.write (Elt F) X Y Finset.univ : sProp 𝕄) = held c b fullShare Y := by
  show ((c : Thread nD τ).loc b ↦[(View.whole b : View sig .tc _ _ _).set]{fullShare} (View.whole b : View sig .tc _ _ _).write (Elt F) X Y Finset.univ : sProp 𝕄) = _
  rw [View.set_whole, View.write_whole_univ]

/-- What a device has when the body starts. -/
def before (K : Dev nD × Fin 7 → ℕ) (c : Dev nD) (o : FVec F S2x256x1024 .f32) : sProp 𝕄 :=
  iprop(ghost m ρ K c ∗ credits (F := F) c ∗ levAts L lv ∗ scratch (F := F) c
    ∗ (∃ W, owes (c : Thread nD τ) (O₀ c) W)
    ∗ held c cc0_stg0_0 fullShare (xIn m ρ c) ∗ held c cc0_stg1_0 fullShare (wdkvIn m ρ c) ∗ held c cc0_stg2_0 fullShare (wukIn m ρ c)
    ∗ held c cc0_stg3_0 fullShare (wuvIn m ρ c) ∗ held c cc0_stg4_0 fullShare (wqIn m ρ c) ∗ held c cc0_stg5_0 fullShare (wqrIn m ρ c)
    ∗ held c cc0_stg6_0 fullShare (wkrIn m ρ c) ∗ held c cc0_stg7_0 fullShare (woIn m ρ c) ∗ held c cc0_stg8_0 fullShare o)

/-- What it has when the body ends. -/
def after (c : Dev nD) : sProp 𝕄 :=
  iprop(Φ₁ (F := F) c ∗ (∃ W, owes (c : Thread nD τ) 0 W)
    ∗ held c cc0_stg0_0 fullShare (xIn m ρ c) ∗ held c cc0_stg1_0 fullShare (wdkvIn m ρ c) ∗ held c cc0_stg2_0 fullShare (wukIn m ρ c)
    ∗ held c cc0_stg3_0 fullShare (wuvIn m ρ c) ∗ held c cc0_stg4_0 fullShare (wqIn m ρ c) ∗ held c cc0_stg5_0 fullShare (wqrIn m ρ c)
    ∗ held c cc0_stg6_0 fullShare (wkrIn m ρ c) ∗ held c cc0_stg7_0 fullShare (woIn m ρ c) ∗ held c cc0_stg8_0 fullShare (result m ρ c))

set_option maxHeartbeats 1600000 in
theorem sound_run (K : Dev nD × Fin 7 → ℕ) (c : Dev nD) (o : FVec F S2x256x1024 .f32) (Q : PUnit → sProp 𝕄) :
    iprop(before m ρ K c o ∗ (after m ρ c -∗ Q ⟨⟩)) ⊢ on c (run (F := F)) Q := by
  unfold run sendAll receiveAll finish
  simp only [semSignalWord, semWaitWord, Prog.lift, Prog.bind_op, Prog.bind_ret, Prog.pure_eq_ret, wp_deviceId]
  unfold before ghost credits scratch places dues
  rw [bigSep_seven, bigSep_seven]
  iintro ⟨⟨⟨#HR, ⟨Ha0, Ha1, Ha2, Ha3, Ha4, Ha5, Ha6⟩, Ht0, Ht1, Ht2, Ht3, Ht4, Ht5, Ht6⟩, ⟨Hc0, Hc4, Hc5, Hc6⟩, #HL,
    ⟨⟨%fc, Hcmp⟩, Hcr, ⟨%fk, Hkey⟩, Hkr, ⟨%fv, Hval⟩, Hvr, Hhead⟩, ⟨%W, HO⟩, Hx, Hdkv, Huk, Huv, Hq, Hqr, Hkr', Ho, Hout⟩, Hk⟩
  unfold O₀
  -- signal the peer's barrier, lending it the three receive buffers
  ihave #HI := (records_inv m ρ K (peer c) 0) $$ HR
  ihave #Hr := (records_reached m ρ K (peer c) 0) $$ HR
  simp only [dev1_eq c]
  iapply (Rounds.wp_signal 𝒱₀ EX (sched m ρ) (c : Thread nD τ) none (dst := (peer c : Thread nD τ)) (κ := K (peer c, 0)) (r := 0) (d := ())
      (mem_duties m ρ (peer c) 0) ((amount_cell m ρ (peer c) 0 ()).trans (by decide)) () (owing c [4, 5, 6]) rfl) $$ [HO Ht0 Hcr Hkr Hvr]
  · isplitr; · iexact HI
    isplitl [HO]; · iexact HO
    isplitl [Ht0]; · iexact Ht0
    isplitl [Hcr Hkr Hvr]
    · rw [show (sched (F := F) m ρ).payload ((peer c : Thread nD τ), .reg barS) 0 () = pay m ρ (peer c) 0 from payload_cell m ρ (peer c) 0 ()]
      unfold pay
      rw [peer_peer]
      isplitl [Hkr]; · iexact Hkr
      isplitl [Hvr]; · iexact Hvr
      iexact Hcr
    iexact Hr
  iintro HO
  -- wait for its signal, which lends the peer's
  iapply (wp_await m ρ c K 0 (wpE_semWait_eq 𝒱₀ (c : Thread nD τ) none Set.univ) [4, 5, 6] (by decide)) $$ [HO Hc0 Ha0]
  · isplitr; · iexact HR
    isplitr; · iexact HL
    isplitl [HO]; · iexact HO
    isplitl [Hc0]; · iexact Hc0
    iexact Ha0
  iintro ⟨⟨%W1, HO⟩, Hz0, Hp⟩
  unfold pay
  icases Hp with ⟨⟨%gk, Hgk⟩, ⟨%gv, Hgv⟩, ⟨%gc, Hgc⟩⟩
  -- fill the two weight buffers
  iapply (wp_get c (M := wukM) (read_all cc0_stg2_0 zero2 _)) $$ Huk; iintro Huk
  iapply (wp_get c (M := keyM) (read_all cc0_scratch2 zero2 _)) $$ Hkey; iintro Hkey
  iapply (wp_put c cc0_scratch2 fk (keySent m ρ c) (M := keyM) (r := allU) (write_all cc0_scratch2 zero2 _ _) rfl rfl) $$ Hkey; iintro Hkey
  iapply (wp_get c (M := wuvM) (read_all cc0_stg3_0 zero2 _)) $$ Huv; iintro Huv
  iapply (wp_get c (M := valM) (read_all cc0_scratch4 zero2 _)) $$ Hval; iintro Hval
  iapply (wp_put c cc0_scratch4 fv (valSent m ρ c) (M := valM) (r := allU) (write_all cc0_scratch4 zero2 _ _) rfl rfl) $$ Hval; iintro Hval
  -- copy them
  ihave Hkey := ((halves c cc0_scratch2 (keySent m ρ c)).1) $$ Hkey
  icases Hkey with ⟨HkL, HkR⟩
  ihave HkL := (Entails.of_eq (lent c cc0_scratch2 _ _).symm) $$ HkL
  ihave Hgk := (Entails.of_eq (lent (peer c) cc0_scratch3 _ _).symm) $$ Hgk
  iapply (wp_copy m ρ c K _ (dev2_eq c) 1 4 creditW (src := keyM) (dst := keyR) rfl rfl rfl [5, 6] (keySent m ρ c) gk
    (Entails.of_eq (lent c cc0_scratch2 _ _)) (Entails.of_eq ((landed (peer c) cc0_scratch3 _ _).trans (by unfold pay; rw [peer_peer]; rfl)))) $$ [HkL Hgk HO Ht1 Ht4]
  · isplitr; · iexact HR
    isplitl [HkL]; · iexact HkL
    isplitl [Hgk]; · iexact Hgk
    isplitl [HO]; · iexact HO
    isplitl [Ht1]; · iexact Ht1
    iexact Ht4
  iintro ⟨Hc1, HO⟩
  ihave Hval := ((halves c cc0_scratch4 (valSent m ρ c)).1) $$ Hval
  icases Hval with ⟨HvL, HvR⟩
  ihave HvL := (Entails.of_eq (lent c cc0_scratch4 _ _).symm) $$ HvL
  ihave Hgv := (Entails.of_eq (lent (peer c) cc0_scratch5 _ _).symm) $$ Hgv
  iapply (wp_copy m ρ c K _ (dev3_eq c) 2 5 creditW (src := valM) (dst := valR) rfl rfl rfl [6] (valSent m ρ c) gv
    (Entails.of_eq (lent c cc0_scratch4 _ _)) (Entails.of_eq ((landed (peer c) cc0_scratch5 _ _).trans (by unfold pay; rw [peer_peer]; rfl)))) $$ [HvL Hgv HO Ht2 Ht5]
  · isplitr; · iexact HR
    isplitl [HvL]; · iexact HvL
    isplitl [Hgv]; · iexact Hgv
    isplitl [HO]; · iexact HO
    isplitl [Ht2]; · iexact Ht2
    iexact Ht5
  iintro ⟨Hc2, HO⟩
  -- compress the input, and copy that
  iapply (wp_get c (M := xM) (read_all cc0_stg0_0 zero3 _)) $$ Hx; iintro Hx
  iapply (wp_get c (M := wdkvM) (read_all cc0_stg1_0 zero2 _)) $$ Hdkv; iintro Hdkv
  iapply (wp_get c (M := cmpM) (read_all cc0_scratch0 zero2 _)) $$ Hcmp; iintro Hcmp
  iapply (wp_put c cc0_scratch0 fc (cmpSent m ρ c) (M := cmpM) (r := allC) (write_all cc0_scratch0 zero2 _ _) rfl rfl) $$ Hcmp; iintro Hcmp
  ihave Hcmp := ((halves c cc0_scratch0 (cmpSent m ρ c)).1) $$ Hcmp
  icases Hcmp with ⟨HcL, HcR⟩
  ihave HcL := (Entails.of_eq (lent c cc0_scratch0 _ _).symm) $$ HcL
  ihave Hgc := (Entails.of_eq (lent (peer c) cc0_scratch1 _ _).symm) $$ Hgc
  iapply (wp_copy m ρ c K _ (dev4_eq c) 3 6 creditC (src := cmpM) (dst := cmpR) rfl rfl rfl [] (cmpSent m ρ c) gc
    (Entails.of_eq (lent c cc0_scratch0 _ _)) (Entails.of_eq ((landed (peer c) cc0_scratch1 _ _).trans (by unfold pay; rw [peer_peer]; rfl)))) $$ [HcL Hgc HO Ht3 Ht6]
  · isplitr; · iexact HR
    isplitl [HcL]; · iexact HcL
    isplitl [Hgc]; · iexact Hgc
    isplitl [HO]; · iexact HO
    isplitl [Ht3]; · iexact Ht3
    iexact Ht6
  iintro ⟨Hc3, HO⟩
  -- the query and rotary weights
  iapply (wp_get c (M := wqM) (read_all cc0_stg4_0 zero2 _)) $$ Hq; iintro Hq
  iapply (wp_get c (M := wqrM) (read_all cc0_stg5_0 zero2 _)) $$ Hqr; iintro Hqr
  iapply (wp_get c (M := wkrM) (read_all cc0_stg6_0 zero2 _)) $$ Hkr'; iintro Hkr'
  -- wait for what the peer sent
  iapply (wp_await m ρ c K 4 (wpE_waitDma2_eq 𝒱₀ (c : Thread nD τ) none Set.univ (src := keyM) (dst := keyR)) [] (by decide)) $$ [HO Hc4 Ha4]
  · isplitr; · iexact HR
    isplitr; · iexact HL
    isplitl [HO]; · iexact HO
    isplitl [Hc4]; · iexact Hc4
    iexact Ha4
  iintro ⟨⟨%W2, HO⟩, Hz4, Hkr⟩
  iapply (wp_await m ρ c K 5 (wpE_waitDma2_eq 𝒱₀ (c : Thread nD τ) none Set.univ (src := valM) (dst := valR)) [] (by decide)) $$ [HO Hc5 Ha5]
  · isplitr; · iexact HR
    isplitr; · iexact HL
    isplitl [HO]; · iexact HO
    isplitl [Hc5]; · iexact Hc5
    iexact Ha5
  iintro ⟨⟨%W3, HO⟩, Hz5, Hvr⟩
  iapply (wp_await m ρ c K 6 (wpE_waitDma2_eq 𝒱₀ (c : Thread nD τ) none Set.univ (src := cmpM) (dst := cmpR)) [] (by decide)) $$ [HO Hc6 Ha6]
  · isplitr; · iexact HR
    isplitr; · iexact HL
    isplitl [HO]; · iexact HO
    isplitl [Hc6]; · iexact Hc6
    iexact Ha6
  iintro ⟨⟨%W4, HO⟩, Hz6, Hcr⟩
  unfold pay
  -- read everything exchanged
  iapply (wp_get c (M := cmpM) (read_all cc0_scratch0 zero2 _)) $$ HcR; iintro HcR
  iapply (wp_get c (M := cmpR) (read_all cc0_scratch1 zero2 _)) $$ Hcr; iintro Hcr
  iapply (wp_get c (M := keyM) (read_all cc0_scratch2 zero2 _)) $$ HkR; iintro HkR
  iapply (wp_get c (M := keyR) (read_all cc0_scratch3 zero2 _)) $$ Hkr; iintro Hkr
  iapply (wp_get c (M := valM) (read_all cc0_scratch4 zero2 _)) $$ HvR; iintro HvR
  iapply (wp_get c (M := valR) (read_all cc0_scratch5 zero2 _)) $$ Hvr; iintro Hvr
  -- the heads
  iapply (wp_allHeads c (inputs m ρ c)) $$ Hhead; iintro Hhead
  -- the result
  iapply (wp_get c (M := headM) (read_all cc0_scratch6 zero2 _)) $$ Hhead; iintro Hhead
  iapply (wp_get c (M := woM) (read_all cc0_stg7_0 zero2 _)) $$ Ho; iintro Ho
  iapply (wp_get c (M := outM) (read_all cc0_stg8_0 zero3 _)) $$ Hout; iintro Hout
  iapply (wp_put c cc0_stg8_0 o (result m ρ c) (M := outM) (r := allX) (write_all cc0_stg8_0 zero3 _ _) rfl rfl) $$ Hout; iintro Hout
  -- wait until the sources have been read
  iapply (wp_await m ρ c K 1 (wpE_waitDma2_eq 𝒱₀ (c : Thread nD τ) none Set.univ (src := keyR) (dst := keyM)) [] (by decide)) $$ [HO Hc1 Ha1]
  · isplitr; · iexact HR
    isplitr; · iexact HL
    isplitl [HO]; · iexact HO
    isplitl [Hc1]; · iexact Hc1
    iexact Ha1
  iintro ⟨⟨%W5, HO⟩, Hz1, HkL⟩
  iapply (wp_await m ρ c K 2 (wpE_waitDma2_eq 𝒱₀ (c : Thread nD τ) none Set.univ (src := valR) (dst := valM)) [] (by decide)) $$ [HO Hc2 Ha2]
  · isplitr; · iexact HR
    isplitr; · iexact HL
    isplitl [HO]; · iexact HO
    isplitl [Hc2]; · iexact Hc2
    iexact Ha2
  iintro ⟨⟨%W6, HO⟩, Hz2, HvL⟩
  iapply (wp_await m ρ c K 3 (wpE_waitDma2_eq 𝒱₀ (c : Thread nD τ) none Set.univ (src := cmpR) (dst := cmpM)) [] (by decide)) $$ [HO Hc3 Ha3]
  · isplitr; · iexact HR
    isplitr; · iexact HL
    isplitl [HO]; · iexact HO
    isplitl [Hc3]; · iexact Hc3
    iexact Ha3
  iintro ⟨⟨%W7, HO⟩, Hz3, HcL⟩
  unfold pay on
  rw [wp_ret]; imodintro
  iapply Hk
  unfold after Φ₁ scratch
  rw [bigSep_seven]
  isplitl [HcL HcR Hcr HkL HkR Hkr HvL HvR Hvr Hhead Hz0 Hz1 Hz2 Hz3 Hz4 Hz5 Hz6]
  · isplitl [HcL HcR Hcr HkL HkR Hkr HvL HvR Hvr Hhead]
    · isplitl [HcL HcR]
      · iexists _; iapply ((halves c cc0_scratch0 (cmpSent m ρ c)).2); isplitl [HcL] <;> iassumption
      isplitl [Hcr]; · iexists _; iexact Hcr
      isplitl [HkL HkR]
      · iexists _; iapply ((halves c cc0_scratch2 (keySent m ρ c)).2); isplitl [HkL] <;> iassumption
      isplitl [Hkr]; · iexists _; iexact Hkr
      isplitl [HvL HvR]
      · iexists _; iapply ((halves c cc0_scratch4 (valSent m ρ c)).2); isplitl [HvL] <;> iassumption
      isplitl [Hvr]; · iexists _; iexact Hvr
      iexists _; iexact Hhead
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  isplitl [HO]; · iexists W7; iexact HO
  isplitl [Hx]; · iexact Hx
  isplitl [Hdkv]; · iexact Hdkv
  isplitl [Huk]; · iexact Huk
  isplitl [Huv]; · iexact Huv
  isplitl [Hq]; · iexact Hq
  isplitl [Hqr]; · iexact Hqr
  isplitl [Hkr']; · iexact Hkr'
  isplitl [Ho]; · iexact Ho
  iexact Hout

end Cert.Attention

end
-- ==== Proof.Launch.lean ====
/-
# From the launch to the end of the run

The library's obligation for the body, then what each device is dealt at launch: its places at its
own cells and the tokens of the duties it pays, which are minted at their cells and handed to their
payers. The run then terminates on every device, with the arrays as the pipeline's data say and
every counter at zero.
-/
module

public import proofs.«01_k».proof.Proof.Body
public import Idealize.ShloMosaic.Lib.Pipeline.CollectiveSegs

@[expose] public section

noncomputable section

namespace Cert.Attention

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The body's obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ held c b fullShare f) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ held c b fullShare f)

theorem stg_elim (c : Dev nD) (b : Ref sig .tc) (X : b.ty.Contents (Elt F)) : (stg c b X : sProp 𝕄) ⊢ held c b fullShare X := by
  iintro ⟨%f, %hf, H⟩
  subst hf
  iexact H
theorem stg_intro (c : Dev nD) (b : Ref sig .tc) (X : b.ty.Contents (Elt F)) : held c b fullShare X ⊢ (stg c b X : sProp 𝕄) := by
  iintro H
  iexists X
  isplitr
  · ipureintro; rfl
  iexact H

def obligationPre (c : Dev nD) : sProp 𝕄 :=
  iprop(Φ₀ m ρ c ∗ (dats m ρ 0 c).owesAt () t0_0.castSucc
    ∗ (∃ d, stg c cc0_stg0_0 ((dats m ρ 0 c).before (0 : Fin 9) t0_0 d)) ∗ (∃ d, stg c cc0_stg1_0 ((dats m ρ 0 c).before (1 : Fin 9) t0_0 d))
    ∗ (∃ d, stg c cc0_stg2_0 ((dats m ρ 0 c).before (2 : Fin 9) t0_0 d)) ∗ (∃ d, stg c cc0_stg3_0 ((dats m ρ 0 c).before (3 : Fin 9) t0_0 d))
    ∗ (∃ d, stg c cc0_stg4_0 ((dats m ρ 0 c).before (4 : Fin 9) t0_0 d)) ∗ (∃ d, stg c cc0_stg5_0 ((dats m ρ 0 c).before (5 : Fin 9) t0_0 d))
    ∗ (∃ d, stg c cc0_stg6_0 ((dats m ρ 0 c).before (6 : Fin 9) t0_0 d)) ∗ (∃ d, stg c cc0_stg7_0 ((dats m ρ 0 c).before (7 : Fin 9) t0_0 d))
    ∗ (∃ d, stg c cc0_stg8_0 ((dats m ρ 0 c).before (8 : Fin 9) t0_0 d)))

def obligationPost (c : Dev nD) : sProp 𝕄 :=
  iprop(Φ₁ (F := F) c ∗ (dats m ρ 0 c).owesAt () t0_0.succ
    ∗ stg c cc0_stg0_0 (xIn m ρ c) ∗ stg c cc0_stg1_0 (wdkvIn m ρ c) ∗ stg c cc0_stg2_0 (wukIn m ρ c)
    ∗ stg c cc0_stg3_0 (wuvIn m ρ c) ∗ stg c cc0_stg4_0 (wqIn m ρ c) ∗ stg c cc0_stg5_0 (wqrIn m ρ c)
    ∗ stg c cc0_stg6_0 (wkrIn m ρ c) ∗ stg c cc0_stg7_0 (woIn m ρ c) ∗ stg c cc0_stg8_0 (result m ρ c))

/-- The obligation's start is the body's, for some names and some contents of the result's buffer. -/
theorem start_body (c : Dev nD) : obligationPre m ρ c ⊢ iprop(∃ K o, before m ρ K c o) := by
  unfold obligationPre Φ₀ start before Dat.owesAt Pipeline.owesWithin
  simp only [Dat.before, if_pos (fetch0_0 t0_0), if_pos (fetch0_1 t0_0), if_pos (fetch0_2 t0_0), if_pos (fetch0_3 t0_0), if_pos (fetch0_4 t0_0),
    if_pos (fetch0_5 t0_0), if_pos (fetch0_6 t0_0), if_pos (fetch0_7 t0_0)]
  iintro ⟨⟨⟨⟨%K, HG⟩, HC, HL⟩, HS⟩, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, ⟨%o, -, H8⟩⟩⟩
  iexists K
  iexists o
  isplitl [HG]; · iexact HG
  isplitl [HC]; · iexact HC
  isplitl [HL]; · iexact HL
  isplitl [HS]; · iexact HS
  isplitl [HO]; · iexists W; iexact HO
  isplitl [H0]; · iapply (stg_elim c cc0_stg0_0 (xIn m ρ c)); iexact H0
  isplitl [H1]; · iapply (stg_elim c cc0_stg1_0 (wdkvIn m ρ c)); iexact H1
  isplitl [H2]; · iapply (stg_elim c cc0_stg2_0 (wukIn m ρ c)); iexact H2
  isplitl [H3]; · iapply (stg_elim c cc0_stg3_0 (wuvIn m ρ c)); iexact H3
  isplitl [H4]; · iapply (stg_elim c cc0_stg4_0 (wqIn m ρ c)); iexact H4
  isplitl [H5]; · iapply (stg_elim c cc0_stg5_0 (wqrIn m ρ c)); iexact H5
  isplitl [H6]; · iapply (stg_elim c cc0_stg6_0 (wkrIn m ρ c)); iexact H6
  isplitl [H7]; · iapply (stg_elim c cc0_stg7_0 (woIn m ρ c)); iexact H7
  iexact H8

theorem end_body (c : Dev nD) : after m ρ c ⊢ obligationPost m ρ c := by
  unfold obligationPost after Dat.owesAt Pipeline.owesWithin
  iintro ⟨HP, ⟨%W, HO⟩, H0, H1, H2, H3, H4, H5, H6, H7, H8⟩
  isplitl [HP]; · iexact HP
  isplitl [HO]
  · iexists W
    isplitr
    · ipureintro; exact fun _ _ => Or.inl trivial
    iexact HO
  isplitl [H0]; · iapply (stg_intro c cc0_stg0_0 (xIn m ρ c)); iexact H0
  isplitl [H1]; · iapply (stg_intro c cc0_stg1_0 (wdkvIn m ρ c)); iexact H1
  isplitl [H2]; · iapply (stg_intro c cc0_stg2_0 (wukIn m ρ c)); iexact H2
  isplitl [H3]; · iapply (stg_intro c cc0_stg3_0 (wuvIn m ρ c)); iexact H3
  isplitl [H4]; · iapply (stg_intro c cc0_stg4_0 (wqIn m ρ c)); iexact H4
  isplitl [H5]; · iapply (stg_intro c cc0_stg5_0 (wqrIn m ρ c)); iexact H5
  isplitl [H6]; · iapply (stg_intro c cc0_stg6_0 (wkrIn m ρ c)); iexact H6
  isplitl [H7]; · iapply (stg_intro c cc0_stg7_0 (woIn m ρ c)); iexact H7
  iapply (stg_intro c cc0_stg8_0 (result m ρ c)); iexact H8

set_option maxRecDepth 4000 in
/-- The body meets the pipeline's obligation. -/
theorem body_obligation (c : Dev nD) : BodyObligation (dats (F := F) m ρ 0 c) (defs₀ (F := F)) 𝒱₀ () Set.univ := fun t => by
  rw [fin_N0 t, bigSep_W0, bigSep_W0]
  simp only [owns_whole_eq]
  show obligationPre m ρ c ⊢ on c (cc0_body (F := F) xM (Memref.isWhole_whole _) wdkvM (Memref.isWhole_whole _) wukM (Memref.isWhole_whole _)
    wuvM (Memref.isWhole_whole _) wqM (Memref.isWhole_whole _) wqrM (Memref.isWhole_whole _) wkrM (Memref.isWhole_whole _)
    woM (Memref.isWhole_whole _) outM (Memref.isWhole_whole _) cmpM (Memref.isWhole_whole _) cmpR (Memref.isWhole_whole _)
    keyM (Memref.isWhole_whole _) keyR (Memref.isWhole_whole _) valM (Memref.isWhole_whole _) valR (Memref.isWhole_whole _)
    headM (Memref.isWhole_whole _) cc0_scratch7 cc0_scratch8) (fun _ => obligationPost m ρ c)
  rw [body_eq]
  iintro H
  ihave H := (start_body m ρ c) $$ H
  icases H with ⟨%K, %o, H⟩
  iapply (sound_run m ρ K c o fun _ => obligationPost m ρ c)
  isplitl [H]; · iexact H
  iintro H
  iapply (end_body m ρ c)
  iexact H

/-! ## What is dealt at launch -/

/-- The kernel's own six semaphores; the seventh, the barrier, belongs to no kernel. -/
def osem : Fin 6 → SemLoc sig := fun k => csem k.succ

theorem ownSemFacts : Pipeline.OwnSemFacts cfg0.spec osem := by decide

theorem share_eq (c : Dev nD) (w : Fin cfg0.W) : (dats (F := F) m ρ 0 c).share w = fullShare := by
  unfold Dat.share; split <;> rfl

abbrev cellAt (ck : Dev nD × Fin 7) : GSem nD τ sig := cell ck.1 ck.2
abbrev tokenAt (ck : Dev nD × Fin 7) : GSem nD τ sig × ℕ × Unit := (cellAt ck, 0, ())

theorem cellAt_injective : Function.Injective cellAt := fun a b h => by
  obtain ⟨h1, h2⟩ := cell_eq_iff.mp h
  exact Prod.ext h1 h2
theorem tokenAt_injective : Function.Injective tokenAt := fun a b h => cellAt_injective (congrArg Prod.fst h)

/-- All 28 cells, and the token of each one's duty. -/
def allCells : Finset (GSem nD τ sig) := Finset.univ.map ⟨cellAt, cellAt_injective⟩
def allTokens : Finset (GSem nD τ sig × ℕ × Unit) := Finset.univ.map ⟨tokenAt, tokenAt_injective⟩

def u₀ : UU := (initOf (Pipeline.cells cfgs cellOf_inj) (Pipeline.launchToks cfgs cellOf_inj), initOf allCells allTokens)

/-- What is dealt for one cell besides its counter: its round's state, its owner's place, that round 0 is open, the duty's token. -/
def cellStart (ck : Dev nD × Fin 7) : sProp 𝕄 :=
  iprop(roundState EX (sched m ρ) (cellAt ck) 0 ∗ reached EX (cellAt ck) 0 ∗ atPos EX (cellAt ck) 0 ∅ 0 ∗ dutyTok EX (cellAt ck) 0 ())

/-- The same once the cell's invariant is made. -/
def cellReady (ck : Dev nD × Fin 7) : sProp 𝕄 :=
  iprop((∃ κ : ℕ, cellInv EX (sched m ρ) κ (cellAt ck)) ∗ reached EX (cellAt ck) 0 ∗ atPos EX (cellAt ck) 0 ∅ 0 ∗ dutyTok EX (cellAt ck) 0 ())

def G (c : Dev nD) : sProp 𝕄 := bigSep Finset.univ fun k : Fin 7 => cellStart m ρ (c, k)
def G' (c : Dev nD) : sProp 𝕄 := iprop(∃ K, ghost m ρ K c)

theorem fund_cells : BI.own (EX (initOf allCells allTokens)) ⊢ (|==> bigSep Finset.univ (G m ρ) : sProp 𝕄) := by
  have hX (Φ : GSem nD τ sig → sProp 𝕄) : bigSep allCells Φ = bigSep Finset.univ fun ck => Φ (cellAt ck) := by
    unfold allCells; rw [bigSep_map]; rfl
  have hT : bigSep allTokens (fun x => (dutyTok EX x.1 x.2.1 x.2.2 : sProp 𝕄)) = bigSep Finset.univ fun ck => dutyTok EX (cellAt ck) 0 () := by
    unfold allTokens; rw [bigSep_map]; rfl
  have hG : bigSep Finset.univ (G m ρ) = bigSep Finset.univ fun ck => cellStart m ρ ck := by
    unfold G; exact (bigSep_univ_prod (fun ck => cellStart m ρ ck)).symm
  iintro HX
  imod (Rounds.fund EX (sched m ρ) allCells allTokens) $$ HX with ⟨Hst, Hr, Hat, Htok⟩
  imodintro
  ihave Hst := (Entails.of_eq (hX fun g => roundState EX (sched m ρ) g 0)) $$ Hst
  ihave Hr := (Entails.of_eq (hX fun g => reached EX g 0)) $$ Hr
  ihave Hat := (Entails.of_eq (hX fun g => atPos EX g 0 ∅ 0)) $$ Hat
  ihave Htok := (Entails.of_eq hT) $$ Htok
  rw [hG]
  unfold cellStart
  rw [bigSep_sep', bigSep_sep', bigSep_sep']
  isplitl [Hst]; · iexact Hst
  isplitl [Hr]; · iexact Hr
  isplitl [Hat] <;> iassumption

theorem ownSems0_eq (c : Dev nD) : (Pipeline.ownSems0 (Ix := Unit) (Name := ℕ) (U := UU) (Lvl := ℕ) (Val := Elt F) (τ := τ) osem c : sProp 𝕄)
    = iprop(semVal (cell c 1) 0 ∗ semVal (cell c 2) 0 ∗ semVal (cell c 3) 0 ∗ semVal (cell c 4) 0 ∗ semVal (cell c 5) 0 ∗ semVal (cell c 6) 0) := by
  rw [Pipeline.ownSems0_eq_of_list c osem [0, 1, 2, 3, 4, 5] (by decide) (by decide)]; rfl
theorem unscopedSems0_eq (c : Dev nD) : (unscopedSems0 c : sProp 𝕄) = semVal (cell c 0) 0 := by
  unfold unscopedSems0; rw [bigSep_eq_bigSepL_of_eq [SemLoc.reg barS] (by decide) (by decide)]; rfl

/-- The counters of a device's seven cells are its kernel's own semaphores and the barrier's. -/
theorem counters_eq (c : Dev nD) : (bigSep Finset.univ fun k : Fin 7 => (semVal (cell c k) 0 : sProp 𝕄))
    = iprop(unscopedSems0 c ∗ Pipeline.ownSems0 (Ix := Unit) (Name := ℕ) (U := UU) (Lvl := ℕ) (Val := Elt F) (τ := τ) osem c) := by
  rw [ownSems0_eq, unscopedSems0_eq, bigSep_seven]

theorem cell_ready (ck : Dev nD × Fin 7) : iprop(semVal (cellAt ck) 0 ∗ cellStart m ρ ck) ⊢ (|={Set.univ}=> cellReady m ρ ck : sProp 𝕄) := by
  unfold cellStart cellReady
  iintro ⟨Hv, Hst, H⟩
  imod ((Rounds.body_intro EX (sched m ρ) (cellAt ck)).trans inv_alloc : _ ⊢ (|={Set.univ}=> iprop(∃ κ : ℕ, cellInv EX (sched m ρ) κ (cellAt ck)) : sProp 𝕄)) $$ [Hv Hst] with HI
  · isplitl [Hv] <;> iassumption
  imodintro
  isplitl [HI]; · iexact HI
  iexact H

theorem device_ready (c : Dev nD) :
    iprop(Pipeline.ownSems0 (Ix := Unit) (Name := ℕ) (U := UU) (Lvl := ℕ) (Val := Elt F) (τ := τ) osem c ∗ unscopedSems0 c ∗ G m ρ c)
      ⊢ (|={Set.univ}=> bigSep Finset.univ fun k : Fin 7 => cellReady m ρ (c, k) : sProp 𝕄) := by
  refine BIBase.Entails.trans ?_ ((bigSep_mono fun k _ => cell_ready m ρ (c, k)).trans (bigSep_fupd _ _))
  rw [bigSep_sep', counters_eq]
  unfold G
  iintro ⟨Ho, Hu, HG⟩
  isplitl [Ho Hu]
  · isplitl [Hu] <;> iassumption
  iexact HG

/-- Each cell's duty goes to its payer: an involution of the cells. -/
def toPayer : Dev nD × Fin 7 ≃ Dev nD × Fin 7 where
  toFun ck := (payer ck.1 ck.2, ck.2)
  invFun ck := (payer ck.1 ck.2, ck.2)
  left_inv ck := Prod.ext (payer_payer ck.1 ck.2) rfl
  right_inv ck := Prod.ext (payer_payer ck.1 ck.2) rfl

theorem ghost_intro (K : Dev nD × Fin 7 → ℕ) (c : Dev nD) : ghost m ρ K c ⊢ G' m ρ c := by
  unfold G'
  iintro H
  iexists K
  iexact H

theorem ghost_all (K : Dev nD × Fin 7 → ℕ) :
    iprop(records m ρ K ∗ (bigSep Finset.univ fun ck => (atPos EX (cellAt ck) 0 ∅ 0 : sProp 𝕄)) ∗ bigSep Finset.univ fun ck => dutyTok EX (cellAt ck) 0 ())
      ⊢ bigSep Finset.univ (G' m ρ) := by
  rw [bigSep_univ_equiv toPayer fun ck => (dutyTok EX (cellAt ck) 0 () : sProp 𝕄), bigSep_univ_prod, bigSep_univ_prod]
  refine BIBase.Entails.trans (sep_mono (BI.bigSep_of_persistent (Finset.univ : Finset (Dev nD)) (records m ρ K)) Entails.rfl) ?_
  rw [← bigSep_sep', ← bigSep_sep']
  exact bigSep_mono fun c _ => ghost_intro m ρ K c

/-- The step taken before any device starts: every cell's invariant made, every token with its payer. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) := by
  refine BIBase.Entails.trans ((bigSep_mono fun c _ => device_ready m ρ c).trans (bigSep_fupd _ _)) (BI.fupd_mono ?_)
  rw [← bigSep_univ_prod (fun ck => cellReady m ρ ck)]
  unfold cellReady
  rw [bigSep_sep', bigSep_sep', bigSep_sep']
  iintro ⟨HI, Hr, Hat, Htok⟩
  ihave HK := (BI.bigSep_exists_pi Finset.univ (fun (ck : Dev nD × Fin 7) (κ : ℕ) => (cellInv EX (sched m ρ) κ (cellAt ck) : sProp 𝕄))) $$ HI
  icases HK with ⟨%K, HI⟩
  iapply (ghost_all m ρ K)
  isplitl [HI Hr]
  · unfold records
    isplitl [HI] <;> iassumption
  isplitl [Hat] <;> iassumption

/-! ## The launch's credit -/

/-- The credit at a cell that is owed once in all. -/
theorem launch_cell (c : Dev nD) (k : Fin 7) (h : ([0, 4, 5, 6] : List (Fin 7)).count k = 1) :
    tallyOn (cell c k) (launchCredit (Pipeline.owing O₀) 0 (cell c k)) = (tallyAt (cell c k) () (amt k) : CellTallies nD τ sig Unit) := by
  have e (d : Dev nD) : O₀ d (cell c k) PUnit.unit = if d = peer c then ([0, 4, 5, 6] : List (Fin 7)).count k * amt k else 0 := owing_cell d c k _
  unfold tallyAt
  refine congrArg _ (Finsupp.ext fun u => ?_)
  cases u
  rw [Pipeline.launchCredit_owing, Finsupp.single_eq_same, Finset.sum_congr rfl fun d _ => e d,
    Finset.sum_ite_eq' Finset.univ (peer c), if_pos (Finset.mem_univ _), h, Nat.one_mul]

theorem credit_all (c : Dev nD) : (Pipeline.launchCred O₀ c : sProp 𝕄) ⊢ credits (F := F) c := by
  unfold Pipeline.launchCred credits
  rw [← launch_cell c 0 (by decide), ← launch_cell c 4 (by decide), ← launch_cell c 5 (by decide), ← launch_cell c 6 (by decide)]
  refine BIBase.Entails.trans (bigSep_subset (Finset.subset_univ ({csem 0, csem 4, csem 5, csem 6} : Finset (SemLoc sig)))) (Entails.of_eq ?_)
  rw [bigSep_eq_bigSepL_of_eq [csem 0, csem 4, csem 5, csem 6] (by decide) (by decide)]
  rfl

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (credit_all (F := F) c) $$ Hcr
  imodintro
  unfold start G'
  isplitl
  · isplitl [HG]; · iexact HG
    isplitl [Hc] <;> iassumption
  · iempintro

theorem phi_first (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scratch
  rw [counters_eq]
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ [0, 4, 5, 6] (by fin_cases w <;> fin_cases s <;> decide)
    · exact mayWait c _ [] (fun _ h => absurd h List.not_mem_nil)

/-! ## The run -/

/-- The contents of window `w`'s array on device `c` after the run. -/
def finalA (c : Dev nD) (w : Fin cfg0.W) : Buf (Elt F) ((cfg0.win w).arr.view.loc (c : Thread nD τ)) := (dats m ρ 0 c).arrAt w cfg0.N

def Final (r : PUnit × MemSt nD τ sig (Elt F)) : Prop :=
  ∀ c : Dev nD, ∀ w : Fin cfg0.W, r.2.mem ((cfg0.win w).arr.view.loc (c : Thread nD τ)) = finalA m ρ c w

set_option maxRecDepth 8000 in
/-- From any memory with all counters at zero, every weakly fair run of the four devices ends, with the arrays at
    `finalA` and all counters at zero. -/
theorem run_main : θ_run (defs (F := F)) (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Attention

end
-- ==== Proof.Frames.lean ====
/-
# The arrays after the run, and the frames

Each staged block is the whole array, so the result array ends as the body's result, and the inputs
as they were. The kernel with the literal for its scale is the named program's text at the named
program's values, the name read as its literal, so one run serves both.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Attention

open Cert.KernelIdeal Cert.KernelIdeal.Gen
open Idealize.ShloMosaic
open Idealize.ShloMosaic.TcCoe
open Idealize.SL.Sem
open Idealize.ShloMosaic.Pipeline (Dat Cfg Window BodyObligation cellOf)

section Generic

variable {F : FTy → Type} [FloatOps F] [Named F]
variable (m : (ℓ : Loc nD τ sig) → Buf (Elt F) ℓ) (ρ : Dev nD → PrngReg)

/-! ## Whole blocks -/

theorem xIn_eq (c : Dev nD) : xIn m ρ c = m ((c : Thread nD τ).loc main_arg0) :=
  Memref.read_access_unit_zero (Elt F) main_arg0 (funext fun a => Nat.zero_mul _) _ _
theorem wdkvIn_eq (c : Dev nD) : wdkvIn m ρ c = m ((c : Thread nD τ).loc main_arg1) :=
  Memref.read_access_unit_zero (Elt F) main_arg1 (funext fun a => Nat.zero_mul _) _ _
theorem wukIn_eq (c : Dev nD) : wukIn m ρ c = m ((c : Thread nD τ).loc main_arg2) :=
  Memref.read_access_unit_zero (Elt F) main_arg2 (funext fun a => Nat.zero_mul _) _ _
theorem wuvIn_eq (c : Dev nD) : wuvIn m ρ c = m ((c : Thread nD τ).loc main_arg3) :=
  Memref.read_access_unit_zero (Elt F) main_arg3 (funext fun a => Nat.zero_mul _) _ _
theorem wqIn_eq (c : Dev nD) : wqIn m ρ c = m ((c : Thread nD τ).loc main_arg4) :=
  Memref.read_access_unit_zero (Elt F) main_arg4 (funext fun a => Nat.zero_mul _) _ _
theorem wqrIn_eq (c : Dev nD) : wqrIn m ρ c = m ((c : Thread nD τ).loc main_arg5) :=
  Memref.read_access_unit_zero (Elt F) main_arg5 (funext fun a => Nat.zero_mul _) _ _
theorem wkrIn_eq (c : Dev nD) : wkrIn m ρ c = m ((c : Thread nD τ).loc main_arg6) :=
  Memref.read_access_unit_zero (Elt F) main_arg6 (funext fun a => Nat.zero_mul _) _ _
theorem woIn_eq (c : Dev nD) : woIn m ρ c = m ((c : Thread nD τ).loc main_arg7) :=
  Memref.read_access_unit_zero (Elt F) main_arg7 (funext fun a => Nat.zero_mul _) _ _

/-- An input window's array ends as it began. -/
theorem final_in (c : Dev nD) (w : Fin 9) (hw : (cfg0.win w).isOut = false) :
    finalA m ρ c w = (s₀ m ρ).mem ((cfg0.win w).arr.view.loc (c : Thread nD τ)) :=
  (dats (F := F) m ρ 0 c).arrAt_in w hw _

/-- The result's array ends as the body's result. -/
theorem final_out (c : Dev nD) : finalA m ρ c (8 : Fin 9) = result m ρ c := by
  have h : (win0_8.blk (0 : Fin 1)).view.read (Elt F) (finalA m ρ c (8 : Fin 9)) = result m ρ c := by
    unfold finalA
    rw [show cfg0.N = ((0 : Fin 1) : Fin cfg0.N).val + 1 from rfl, (dats m ρ 0 c).arrAt_succ (8 : Fin 9) (0 : Fin 1)]
    rw [show (cfg0.win (8 : Fin 9)).flush (0 : Fin 1) = true from by decide, if_pos rfl]
    exact View.read_write_univ _ _
  exact (Memref.read_access_unit_zero (Elt F) main_v1 (funext fun a => Nat.zero_mul _) _ _).symm.trans h

/-- The kernel's run: every device's result, the arguments unchanged, the counters at zero. -/
theorem run_value : θ_run (defs (F := F)) (onTc (τ := τ) (main (F := F))) ⟨m, fun _ => 0, ρ⟩ fun r =>
    (∀ c : Dev nD, r.2.mem ((c.tc : Thread nD τ).loc main_v1) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
    ∧ r.2.sem = fun _ => 0 :=
  (θ_run _ _ _).mono (fun _ h => ⟨fun c => ⟨(h.1 c (8 : Fin 9)).trans (final_out m ρ c),
    (h.1 c (0 : Fin 9)).trans (final_in m ρ c 0 rfl), (h.1 c (1 : Fin 9)).trans (final_in m ρ c 1 rfl),
    (h.1 c (2 : Fin 9)).trans (final_in m ρ c 2 rfl), (h.1 c (3 : Fin 9)).trans (final_in m ρ c 3 rfl),
    (h.1 c (4 : Fin 9)).trans (final_in m ρ c 4 rfl), (h.1 c (5 : Fin 9)).trans (final_in m ρ c 5 rfl),
    (h.1 c (6 : Fin 9)).trans (final_in m ρ c 6 rfl), (h.1 c (7 : Fin 9)).trans (final_in m ρ c 7 rfl)⟩, h.2⟩) (run_main m ρ)

end Generic

/-! ## The three frames -/

theorem frame_named : Cert.quiescent_KernelIdeal := fun m ρ _ =>
  (θ_run _ _ _).mono (fun _ h => ⟨fun c => (h.1 c).2, h.2⟩) (run_value (F := Ideal) m ρ)

theorem frame_reference : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

section Literal

/-- A name read as the literal it is printed for. -/
local instance literal : Named Bits := ⟨fun _ _ φ bits => Scalar.ofBits φ bits⟩

theorem main_same : Cert.Kernel.main (F := Bits) = main (F := Bits) := rfl

set_option maxRecDepth 4000 in
theorem bodies_same : Cert.Kernel.defs₀ (F := Bits) = defs₀ (F := Bits) := by
  unfold Cert.Kernel.defs₀ defs₀
  refine congrArg Defs.onTc ?_
  funext l a
  obtain ⟨l, hl⟩ := l
  match l, hl, a with
  | 0, _, (t, s) => rfl

theorem defs_same : Cert.Kernel.defs (F := Bits) = defs (F := Bits) := congrArg (Pipeline.defs _) bodies_same

theorem frame_kernel : Cert.quiescent_Kernel := fun m ρ _ => by
  rw [defs_same, main_same]
  exact (θ_run _ _ _).mono (fun _ h => ⟨fun c => (h.1 c).2, h.2⟩) (run_value (F := Bits) m ρ)

end Literal

/-- The scale's literal is the name's, and the name's value is `1 / √96`. -/
theorem preserves : Cert.preserves_Kernel_KernelIdeal :=
  IdealRules.named_const.statement Cert.KernelIdeal.κ "scale" .f32 0x3DD105EC#32 _ rfl

end Cert.Attention

end
-- ==== Proof.Spec.lean ====
/-
# The attention layer, as a function of its eight arrays

The value both programs compute, over the extended reals, with every array a function of its
coordinates: two batches of 256 positions, sixteen heads of 64 columns, and 32 rotary columns a head
that share one rotary key.
-/
module

public import Idealize.ShloMosaic.Lib.Pointwise

@[expose] public section

noncomputable section

namespace Cert.Attention

open Idealize.ShloMosaic

/-- The eight arrays: the input, the compressing weights, the key and value weights that expand it,
    the weights of the queries, the rotary queries and the rotary key, and the output weights. -/
structure Arrays where
  x : Fin 2 → Fin 256 → Fin 1024 → EReal
  wdkv : Fin 1024 → Fin 128 → EReal
  wuk : Fin 128 → Fin 1024 → EReal
  wuv : Fin 128 → Fin 1024 → EReal
  wq : Fin 1024 → Fin 1024 → EReal
  wqr : Fin 1024 → Fin 512 → EReal
  wkr : Fin 1024 → Fin 32 → EReal
  wo : Fin 1024 → Fin 1024 → EReal

/-- Head `h`'s column `d` among all heads' columns; -/
abbrev col (h : Fin 16) (d : Fin 64) : Fin 1024 := ⟨64 * h.val + d.val, by omega⟩
/-- its rotary column `d` among all heads' rotary columns. -/
abbrev rotCol (h : Fin 16) (d : Fin 32) : Fin 512 := ⟨32 * h.val + d.val, by omega⟩
/-- The head of column `l`, -/
abbrev headOf (l : Fin 1024) : Fin 16 := ⟨l.val / 64, by omega⟩
/-- and its place in that head. -/
abbrev placeOf (l : Fin 1024) : Fin 64 := ⟨l.val % 64, by omega⟩

/-- The largest of a row. -/
def rowMax (f : Fin 256 → EReal) : EReal := Finset.univ.fold max (Ideal.ofBits .f32 0xFF800000#32) f

/-- The softmax of a row. -/
def softmax (f : Fin 256 → EReal) (t : Fin 256) : EReal :=
  Ideal.div (Ideal.exp (f t - rowMax f)) (∑ u, Ideal.exp (f u - rowMax f))

namespace Arrays

variable (A : Arrays) (b : Fin 2) (h : Fin 16) (s t : Fin 256)

def query (j : Fin 1024) : EReal := ∑ k, A.x b s k * A.wq k j
def rotQuery (j : Fin 512) : EReal := ∑ k, A.x b s k * A.wqr k j
def rotKey (j : Fin 32) : EReal := ∑ k, A.x b s k * A.wkr k j
def cmp (j : Fin 128) : EReal := ∑ k, A.x b s k * A.wdkv k j
def key (j : Fin 1024) : EReal := ∑ l, A.cmp b s l * A.wuk l j
def value (j : Fin 1024) : EReal := ∑ l, A.cmp b s l * A.wuv l j

/-- How much position `s` attends to position `t` in head `h`, before the softmax. -/
def score : EReal :=
  ((∑ d : Fin 64, A.query b s (col h d) * A.key b t (col h d)) + ∑ d : Fin 32, A.rotQuery b s (rotCol h d) * A.rotKey b t d)
    * (((Real.sqrt 96)⁻¹ : ℝ) : EReal)

/-- Head `h`'s result at position `s`. -/
def attended (d : Fin 64) : EReal := ∑ t, softmax (A.score b h s) t * A.value b t (col h d)

/-- The layer's result. -/
def answer (j : Fin 1024) : EReal := ∑ l, A.attended b (headOf l) s (placeOf l) * A.wo l j

end Arrays

end Cert.Attention

end
-- ==== Proof.KernelValue.lean ====
/-
# The kernel's values, entry by entry, over the extended reals
-/
module

public import proofs.«01_k».proof.Proof.Protocol
public import proofs.«01_k».proof.Proof.Spec

@[expose] public section

set_option maxRecDepth 16384

noncomputable section

namespace Cert.Attention

open Cert.KernelIdeal Cert.KernelIdeal.Gen
open Idealize.ShloMosaic
open Idealize.ShloMosaic.TcCoe

/-! ## A head -/

/-- The row of position `s` of batch `b` among the 512 rows. -/
abbrev row (b : Fin 2) (s : Fin 256) : Fin 512 := ⟨256 * b.val + s.val, by omega⟩

/-- The scale the kernel multiplies its scores by. -/
theorem scale_eq : Named.named (F := Ideal) κ "scale" (φ := .f32) 0x3DD105EC#32 = (((Real.sqrt 96)⁻¹ : ℝ) : EReal) :=
  IdealRules.named_const.ideal_named_scalar _ _ _ _ rfl

theorem softmaxRows_apply (s : FVec Ideal S256x256 .f32) (i j : Fin 256) :
    softmaxRows s (ix2 i j) = softmax (fun t => s (ix2 i t)) j := by
  pointwise [softmaxRows, weights, alongRow, softmax, rowMax]

theorem scores_apply (q k : FVec Ideal S256x64 .bf16) (qr kr : FVec Ideal S256x32 .bf16) (i j : Fin 256) :
    scores q k qr kr (ix2 i j)
      = ((∑ d : Fin 64, q (ix2 i d) * k (ix2 j d)) + ∑ d : Fin 32, qr (ix2 i d) * kr (ix2 j d)) * (((Real.sqrt 96)⁻¹ : ℝ) : EReal) := by
  pointwise [scores]
  rw [scale_eq]

theorem attend_apply (s : FVec Ideal S256x256 .f32) (v : FVec Ideal S256x64 .bf16) (i : Fin 256) (d : Fin 64) :
    attend s v (ix2 i d) = ∑ t : Fin 256, softmax (fun u => s (ix2 i u)) t * v (ix2 t d) := by
  pointwise [attend]
  exact Finset.sum_congr rfl fun t _ => by rw [softmaxRows_apply]

theorem block_apply (b : Fin 2) (h : Fin 16) (x : FVec Ideal S512x1024 .bf16) (s : Fin 256) (d : Fin 64) :
    block (16 * b.val + h.val) x (ix2 s d) = x (ix2 (row b s) (col h d)) := by
  pointwise [block]
  congr 1
  apply congrArg₂ <;> apply Fin.ext <;> simp only [rowOf, colOf] <;> omega

theorem rotBlock_apply (b : Fin 2) (h : Fin 16) (x : FVec Ideal S512x512 .bf16) (s : Fin 256) (d : Fin 32) :
    rotBlock (16 * b.val + h.val) x (ix2 s d) = x (ix2 (row b s) (rotCol h d)) := by
  pointwise [rotBlock]
  congr 1
  apply congrArg₂ <;> apply Fin.ext <;> simp only [rowOf, rotOf] <;> omega

theorem batchBlock_apply (b : Fin 2) (h : Fin 16) (x : FVec Ideal S512x32 .bf16) (s : Fin 256) (d : Fin 32) :
    batchBlock (16 * b.val + h.val) x (ix2 s d) = x (ix2 (row b s) d) := by
  pointwise [batchBlock]
  congr 1
  apply congrArg₂ <;> apply Fin.ext <;> simp only [rowOf] <;> omega

/-- The head buffer's entry at position `s` of batch `b`, column `l`. -/
theorem gathered_apply (I : Inputs Ideal) (b : Fin 2) (s : Fin 256) (l : Fin 1024) :
    gathered I (ix2 (row b s) l) = head I (16 * b.val + (headOf l).val) (ix2 s (placeOf l)) := by
  show head I (16 * ((256 * b.val + s.val) / 256) + l.val / 64) (within (ix2 (row b s) l)) = _
  have hw : within (ix2 (row b s) l) = ix2 s (placeOf l) := by
    refine (eq_ix2 _).trans ((ix2_inj ..).2 ⟨Fin.ext ?_, Fin.ext rfl⟩)
    show (256 * b.val + s.val) % 256 = s.val
    omega
  rw [hw, show (256 * b.val + s.val) / 256 = b.val by omega]

/-! ## The projections -/

theorem pay4_apply (x : FVec Ideal S2x256x1024 .bf16) (b : Fin 2) (s : Fin 256) (k : Fin 1024) :
    k0_pay4 (F := Ideal) x (ix2 (row b s) k) = x (ix3 b s k) := by
  pointwise [k0_pay4]
  refine congrArg x ((ix3_inj ..).2 ⟨Fin.ext ?_, Fin.ext ?_, rfl⟩)
  · show (256 * b.val + s.val) / 256 = b.val
    omega
  · show (256 * b.val + s.val) % 256 = s.val
    omega

variable (m : (ℓ : Loc nD τ sig) → Buf (Elt Ideal) ℓ) (ρ : Dev nD → PrngReg)

/-- Column `l` of device `c`'s half of the 128 compressed columns. -/
abbrev half (c : Dev nD) (l : Fin 64) : Fin 128 := ⟨64 * (c.val % 2) + l.val, by omega⟩

/-- Every device holds its part of the arrays `A`: its half of the compressed columns, and the rest whole. -/
structure Holds (A : Arrays) : Prop where
  x : ∀ c b s k, xIn m ρ c (ix3 b s k) = A.x b s k
  wdkv : ∀ c k l, wdkvIn m ρ c (ix2 k l) = A.wdkv k (half c l)
  wuk : ∀ c l j, wukIn m ρ c (ix2 l j) = A.wuk (half c l) j
  wuv : ∀ c l j, wuvIn m ρ c (ix2 l j) = A.wuv (half c l) j
  wq : ∀ c k j, wqIn m ρ c (ix2 k j) = A.wq k j
  wqr : ∀ c k j, wqrIn m ρ c (ix2 k j) = A.wqr k j
  wkr : ∀ c k j, wkrIn m ρ c (ix2 k j) = A.wkr k j
  wo : ∀ c k j, woIn m ρ c (ix2 k j) = A.wo k j

variable {m ρ} {A : Arrays} (H : Holds m ρ A) (c : Dev nD) (b : Fin 2) (s : Fin 256)
include H

theorem query_apply (j : Fin 1024) : (inputs m ρ c).q (ix2 (row b s) j) = A.query b s j := by
  show k0_pay6 _ _ _ = _
  pointwise [k0_pay6]
  exact Finset.sum_congr rfl fun k _ => by rw [pay4_apply, H.x, H.wq]

theorem rotQuery_apply (j : Fin 512) : (inputs m ρ c).qr (ix2 (row b s) j) = A.rotQuery b s j := by
  show k0_pay8 (k0_pay7 _ _) _ = _
  pointwise [k0_pay8, k0_pay7]
  exact Finset.sum_congr rfl fun k _ => by rw [pay4_apply, H.x, H.wqr]

theorem rotKey_apply (j : Fin 32) : (inputs m ρ c).kr (ix2 (row b s) j) = A.rotKey b s j := by
  show k0_pay9 _ _ _ = _
  pointwise [k0_pay9]
  exact Finset.sum_congr rfl fun k _ => by rw [pay4_apply, H.x, H.wkr]

theorem cmpSent_apply (l : Fin 64) : cmpSent m ρ c (ix2 (row b s) l) = A.cmp b s (half c l) := by
  pointwise [cmpSent, k0_pay5]
  exact Finset.sum_congr rfl fun k _ => by rw [pay4_apply, H.x, H.wdkv]

theorem keySent_apply (l : Fin 64) (j : Fin 1024) : keySent m ρ c (ix2 l j) = A.wuk (half c l) j := by
  pointwise [keySent, k0_pay2]
  exact H.wuk c l j

theorem valSent_apply (l : Fin 64) (j : Fin 1024) : valSent m ρ c (ix2 l j) = A.wuv (half c l) j := by
  pointwise [valSent, k0_pay3]
  exact H.wuv c l j

omit H in
/-- A sum over the 128 compressed columns is the device's half plus the peer's, on either device. -/
theorem sum_halves (f : Fin 128 → EReal) : (∑ l, f (half c l)) + ∑ l, f (half (peer c) l) = ∑ l, f l := by
  have hs : ∑ l, f l = (∑ l : Fin 64, f ⟨l.val, by omega⟩) + ∑ l : Fin 64, f ⟨64 + l.val, by omega⟩ := Fin.sum_univ_two_halves 64 64 rfl f
  have hp : (peer c).val % 2 = 1 - c.val % 2 := by revert c; decide
  have side (e : Dev nD) (k : ℕ) (he : e.val % 2 = k) (hk : k < 2) : ∑ l, f (half e l) = ∑ l : Fin 64, f ⟨64 * k + l.val, by omega⟩ := by
    subst he; rfl
  rw [hs]
  rcases Nat.mod_two_eq_zero_or_one c.val with h0 | h1
  · rw [side c 0 h0 (by decide), side (peer c) 1 (by omega) (by decide)]
    simp only [Nat.mul_zero, Nat.zero_add, Nat.mul_one]
  · rw [side c 1 h1 (by decide), side (peer c) 0 (by omega) (by decide), add_comm]
    simp only [Nat.mul_zero, Nat.zero_add, Nat.mul_one]

theorem key_apply (j : Fin 1024) : (inputs m ρ c).k (ix2 (row b s) j) = A.key b s j := by
  show k0_pay12 (k0_pay10 _ _) (k0_pay11 _ _) _ = _
  pointwise [k0_pay12, k0_pay10, k0_pay11]
  refine Eq.trans ?_ (sum_halves c fun l => A.cmp b s l * A.wuk l j)
  exact congrArg₂ (· + ·) (Finset.sum_congr rfl fun l _ => by rw [cmpSent_apply H, keySent_apply H])
    (Finset.sum_congr rfl fun l _ => by rw [cmpSent_apply H, keySent_apply H])

theorem value_apply (j : Fin 1024) : (inputs m ρ c).v (ix2 (row b s) j) = A.value b s j := by
  show k0_pay13 _ _ _ _ _ = _
  pointwise [k0_pay13]
  refine Eq.trans ?_ (sum_halves c fun l => A.cmp b s l * A.wuv l j)
  exact congrArg₂ (· + ·) (Finset.sum_congr rfl fun l _ => by rw [cmpSent_apply H, valSent_apply H])
    (Finset.sum_congr rfl fun l _ => by rw [cmpSent_apply H, valSent_apply H])

/-! ## The result -/

theorem head_apply (h : Fin 16) (d : Fin 64) : head (inputs m ρ c) (16 * b.val + h.val) (ix2 s d) = A.attended b h s d := by
  unfold head
  rw [attend_apply]
  refine Finset.sum_congr rfl fun t _ => ?_
  rw [block_apply, value_apply H]
  congr 2
  funext u
  simp only [scores_apply, block_apply, rotBlock_apply, batchBlock_apply, query_apply H, key_apply H, rotQuery_apply H, rotKey_apply H]
  rfl

/-- Every device's result is the layer's answer. -/
theorem result_apply (j : Fin 1024) : result m ρ c (ix3 b s j) = A.answer b s j := by
  pointwise [result, k0_pay1, k0_pay84]
  refine Finset.sum_congr rfl fun l _ => ?_
  rw [show (⟨b.val * 256 + s.val, by omega⟩ : Fin 512) = row b s from Fin.ext (by simp only []; omega), gathered_apply, head_apply H, H.wo]

end Cert.Attention

end
-- ==== Proof.Constants.lean ====
/-
# The reference's constant, as a real number
-/
module

public import Idealize.ShloMosaic.PureOps.Ideal

@[expose] public section

noncomputable section

namespace Cert.Attention

open Idealize.ShloMosaic

/-- The number the reference takes the root of is 96. -/
theorem ninety_six : Ideal.ofBits .f32 0x42C00000#32 = ((96 : ℝ) : EReal) := by
  simp [Ideal.ofBits, Ideal.ieee, -EReal.coe_mul]; norm_num

end Cert.Attention

end
-- ==== Proof.RefValue.lean ====
/-
# The reference's values, entry by entry, over the extended reals
-/
module

public import proofs.«01_k».proof.Proof.Gen.ReferenceIdeal.Run
public import proofs.«01_k».proof.Proof.Spec
public import proofs.«01_k».proof.Proof.Constants
public import Idealize.ShloMosaic.Lib.Tactic.CleanTypes

@[expose] public section

set_option maxRecDepth 16384

noncomputable section

namespace Cert.Attention.Reference

open Cert.ReferenceIdeal Cert.ReferenceIdeal.Gen
open Idealize.ShloMosaic
open Idealize.ShloMosaic.TcCoe

/-! ## The reference's steps -/

variable (x : FVec Ideal S2x256x1024 .f32) (wdkv : FVec Ideal S1024x128 .f32) (wuk wuv : FVec Ideal S128x1024 .f32)
  (wq : FVec Ideal S1024x1024 .f32) (wqr : FVec Ideal S1024x512 .f32) (wkr : FVec Ideal S1024x32 .f32) (wo : FVec Ideal S1024x1024 .f32)

/-- Every head's keys (or values): the compressed input times the expanding weights. -/
def expand (w : FVec Ideal S128x1024 .f32) : FVec Ideal S2x256x16x64 .f32 :=
  shapeCast _ (Host.dotGeneral dot_S2x256x128_S128x1024_S2x256x1024_2_0_01_1_n_n none
    (Host.dotGeneral dot_S2x256x1024_S1024x128_S2x256x128_2_0_01_1_n_n none x wdkv) w) shapeCasts_S2x256x1024_S2x256x16x64

/-- The scaled scores of every head. -/
def scoresOf : FVec Ideal S2x16x256x256 .f32 :=
  Host.divf
    (addf
      (Host.dotGeneral dot_S2x256x16x64_S2x256x16x64_S2x16x256x256_3_3_1_1_02_02 none
        (shapeCast _ (Host.dotGeneral dot_S2x256x1024_S1024x1024_S2x256x1024_2_0_01_1_n_n none x wq) shapeCasts_S2x256x1024_S2x256x16x64)
        (expand x wdkv wuk))
      (Host.dotGeneral dot_S2x256x16x32_S2x256x16x32_S2x16x256x256_3_3_1_1_02_02 none
        (shapeCast _ (Host.dotGeneral dot_S2x256x1024_S1024x512_S2x256x512_2_0_01_1_n_n none x wqr) shapeCasts_S2x256x512_S2x256x16x32)
        (broadcastInDim S2x256x16x32 ![0, 1, 2, 3] bcast_S2x256x1x32_S2x256x16x32_0_1_2_3
          (shapeCast _ (Host.dotGeneral dot_S2x256x1024_S1024x32_S2x256x32_2_0_01_1_n_n none x wkr) shapeCasts_S2x256x32_S2x256x1x32))))
    (broadcastInDim S2x16x256x256 ![] bcast_S_S2x16x256x256 (Host.sqrt (constant S_ .f32 0x42C00000#32)))

/-- The exponentials of scores, less their row's largest. -/
def weightsOf (s : FVec Ideal S2x16x256x256 .f32) : FVec Ideal S2x16x256x256 .f32 :=
  Host.exp (subf s (broadcastInDim S2x16x256x256 ![0, 1, 2, 3] bcast_S2x16x256x1_S2x16x256x256_0_1_2_3
    (broadcastInDim S2x16x256x1 ![0, 1, 2] bcast_S2x16x256_S2x16x256x1_0_1_2
      (Host.reduce FloatOps.maximumf s (constant S_ .f32 0xFF800000#32) reducesTo_S2x16x256x256_S2x16x256_d3 h_S_))))

/-- Each row's weights over their sum. -/
def softmaxOf (s : FVec Ideal S2x16x256x256 .f32) : FVec Ideal S2x16x256x256 .f32 :=
  Host.divf (weightsOf s) (broadcastInDim S2x16x256x256 ![0, 1, 2, 3] bcast_S2x16x256x1_S2x16x256x256_0_1_2_3
    (broadcastInDim S2x16x256x1 ![0, 1, 2] bcast_S2x16x256_S2x16x256x1_0_1_2
      (Host.reduceAdd (weightsOf s) (constant S_ .f32 0x00000000#32) reducesTo_S2x16x256x256_S2x16x256_d3 h_S_)))

/-- The heads side by side, times the output weights. -/
def outputOf (v : FVec Ideal S2x256x16x64 .f32) (p : FVec Ideal S2x16x256x256 .f32) (wo : FVec Ideal S1024x1024 .f32) :
    FVec Ideal S2x256x1024 .f32 :=
  Host.dotGeneral dot_S2x256x1024_S1024x1024_S2x256x1024_2_0_01_1_n_n none
    (shapeCast _ (transpose S2x256x16x64 [0, 3, 1, 2]
        (Host.dotGeneral dot_S2x256x16x64_S2x16x256x256_S2x16x64x256_1_3_3_2_02_01 none v p)
      transposes_S2x16x64x256_S2x256x16x64_0_3_1_2) shapeCasts_S2x256x16x64_S2x256x1024) wo

/-- The reference's result is these steps, one after another. -/
theorem result_steps (m : (ℓ : Loc nD τ sig) → Buf (Elt Ideal) ℓ) (c : Dev nD) :
    Value.res_out0 m c
      = outputOf (expand (m ((c.tc : Thread nD τ).loc main_arg0)) (m ((c.tc : Thread nD τ).loc main_arg1)) (m ((c.tc : Thread nD τ).loc main_arg3)))
          (softmaxOf (scoresOf (m ((c.tc : Thread nD τ).loc main_arg0)) (m ((c.tc : Thread nD τ).loc main_arg1))
            (m ((c.tc : Thread nD τ).loc main_arg2)) (m ((c.tc : Thread nD τ).loc main_arg4)) (m ((c.tc : Thread nD τ).loc main_arg5))
            (m ((c.tc : Thread nD τ).loc main_arg6))))
          (m ((c.tc : Thread nD τ).loc main_arg7)) := by
  unfold Value.res_out0 Value.res_main_v38 outputOf softmaxOf weightsOf scoresOf expand
  rfl

/-! ## The steps, entry by entry -/

/-- The arrays as functions of their coordinates. -/
@[reducible] def arrays : Arrays where
  x b s k := x (ix3 b s k)
  wdkv k l := wdkv (ix2 k l)
  wuk l j := wuk (ix2 l j)
  wuv l j := wuv (ix2 l j)
  wq k j := wq (ix2 k j)
  wqr k j := wqr (ix2 k j)
  wkr k j := wkr (ix2 k j)
  wo k j := wo (ix2 k j)

theorem expand_apply (w : FVec Ideal S128x1024 .f32) (b : Fin 2) (s : Fin 256) (h : Fin 16) (d : Fin 64) :
    expand x wdkv w (ix4 b s h d) = ∑ l : Fin 128, (∑ k : Fin 1024, x (ix3 b s k) * wdkv (ix2 k l)) * w (ix2 l (col h d)) := by
  pointwise [expand]
  simp only [Nat.mul_comm h.val 64]

/-- A quotient by the root of 96 is the product with its inverse. -/
theorem div_root (x : EReal) : Ideal.div x (Ideal.sqrt (Ideal.ofBits .f32 0x42C00000#32)) = x * (((Real.sqrt 96)⁻¹ : ℝ) : EReal) := by
  rw [ninety_six, Ideal.sqrt_coe, if_neg (by norm_num : ¬(96 : ℝ) < 0), Ideal.div_coe (Real.sqrt_pos.mpr (by norm_num)).ne', one_div]

theorem scoresOf_apply (b : Fin 2) (h : Fin 16) (s t : Fin 256) :
    scoresOf x wdkv wuk wq wqr wkr (ix4 b h s t) = (arrays x wdkv wuk wuv wq wqr wkr wo).score b h s t := by
  pointwise [scoresOf]
  rw [div_root]
  simp only [expand_apply, Nat.mul_comm h.val]
  rfl

theorem softmaxOf_apply (f : FVec Ideal S2x16x256x256 .f32) (b : Fin 2) (h : Fin 16) (s t : Fin 256) :
    softmaxOf f (ix4 b h s t) = softmax (fun u => f (ix4 b h s u)) t := by
  pointwise [softmaxOf, weightsOf, softmax, rowMax]

theorem outputOf_apply (v : FVec Ideal S2x256x16x64 .f32) (p : FVec Ideal S2x16x256x256 .f32) (b : Fin 2) (s : Fin 256) (j : Fin 1024) :
    outputOf v p wo (ix3 b s j)
      = ∑ l : Fin 1024, (∑ t : Fin 256, v (ix4 b t (headOf l) (placeOf l)) * p (ix4 b (headOf l) s t)) * wo (ix2 l j) := by
  pointwise [outputOf]

/-- The steps together compute the layer's answer. -/
theorem steps_apply (b : Fin 2) (s : Fin 256) (j : Fin 1024) :
    outputOf (expand x wdkv wuv) (softmaxOf (scoresOf x wdkv wuk wq wqr wkr)) wo (ix3 b s j)
      = (arrays x wdkv wuk wuv wq wqr wkr wo).answer b s j := by
  rw [outputOf_apply]
  refine Finset.sum_congr rfl fun l _ => congrArg (· * wo (ix2 l j)) (Finset.sum_congr rfl fun t _ => ?_)
  rw [expand_apply, softmaxOf_apply, mul_comm]
  simp only [scoresOf_apply x wdkv wuk wuv wq wqr wkr wo]
  rfl

end Cert.Attention.Reference

end
-- ==== Proof.Algebraic.lean ====
/-
# The kernel and the reference compute one array

Each device holds the uncut arrays whole and its half, along the 128 compressed columns, of the other
three: the device at (x, y) of the mesh holds half y, and so does what its number leaves modulo 2.
-/
module

public import proofs.«01_k».proof.Proof.Frames
public import proofs.«01_k».proof.Proof.KernelValue
public import proofs.«01_k».proof.Proof.RefValue

@[expose] public section

noncomputable section

namespace Cert.Attention

open Cert.KernelIdeal Cert.KernelIdeal.Gen
open Idealize.ShloMosaic Idealize.ShloMosaic.TcCoe
open Idealize.SL.Sem

/-! ## The halves -/

/-- A device's block of the compressing weights: its half of the columns. -/
theorem block_cols (c : Dev nD) (w : (⟨2, ![1024, 128]⟩ : Shape).Idx → EReal) (k : Fin 1024) (l : Fin 64) :
    Layout.blockN ⟨2, ![1024, 64]⟩ ⟨2, ![1024, 128]⟩ (Layout.meshBlock [2, 2] ![[], [1]] c) w (by decide) (ix2 k l)
      = w (ix2 k (half c l)) := by
  rw [Layout.blockN_apply]
  refine congrArg w ((eq_ix2 _).trans ((ix2_inj ..).2 ⟨Fin.ext ?_, Fin.ext ?_⟩))
  · show 0 * 1024 + k.val = k.val
    omega
  · show (c.val / 1 % 2 * 1 + 0) * 64 + l.val = 64 * (c.val % 2) + l.val
    omega

/-- A device's block of the key weights, or of the value weights: its half of the rows. -/
theorem block_rows (c : Dev nD) (w : (⟨2, ![128, 1024]⟩ : Shape).Idx → EReal) (l : Fin 64) (j : Fin 1024) :
    Layout.blockN ⟨2, ![64, 1024]⟩ ⟨2, ![128, 1024]⟩ (Layout.meshBlock [2, 2] ![[1], []] c) w (by decide) (ix2 l j)
      = w (ix2 (half c l) j) := by
  rw [Layout.blockN_apply]
  refine congrArg w ((eq_ix2 _).trans ((ix2_inj ..).2 ⟨Fin.ext ?_, Fin.ext ?_⟩))
  · show (c.val / 1 % 2 * 1 + 0) * 64 + l.val = 64 * (c.val % 2) + l.val
    omega
  · show 0 * 1024 + j.val = j.val
    omega

/-! ## The claim -/

/-- On every device the kernel's result is the reference's. -/
theorem algebraic : Cert.algebraic_KernelIdeal_ReferenceIdeal := by
  intro m ρ m' ρ' _ agree
  have H : Holds m ρ (Reference.arrays
      (m' (((0 : Dev Cert.ReferenceIdeal.nD).tc : Thread _ _).loc Cert.ReferenceIdeal.main_arg0))
      (m' (((0 : Dev Cert.ReferenceIdeal.nD).tc : Thread _ _).loc Cert.ReferenceIdeal.main_arg1))
      (m' (((0 : Dev Cert.ReferenceIdeal.nD).tc : Thread _ _).loc Cert.ReferenceIdeal.main_arg2))
      (m' (((0 : Dev Cert.ReferenceIdeal.nD).tc : Thread _ _).loc Cert.ReferenceIdeal.main_arg3))
      (m' (((0 : Dev Cert.ReferenceIdeal.nD).tc : Thread _ _).loc Cert.ReferenceIdeal.main_arg4))
      (m' (((0 : Dev Cert.ReferenceIdeal.nD).tc : Thread _ _).loc Cert.ReferenceIdeal.main_arg5))
      (m' (((0 : Dev Cert.ReferenceIdeal.nD).tc : Thread _ _).loc Cert.ReferenceIdeal.main_arg6))
      (m' (((0 : Dev Cert.ReferenceIdeal.nD).tc : Thread _ _).loc Cert.ReferenceIdeal.main_arg7))) :=
    { x := fun c b s k => congrFun ((xIn_eq m ρ c).trans (agree c).1) _
      wdkv := fun c k l => (congrFun ((wdkvIn_eq m ρ c).trans (agree c).2.1) _).trans (block_cols c _ k l)
      wuk := fun c l j => (congrFun ((wukIn_eq m ρ c).trans (agree c).2.2.1) _).trans (block_rows c _ l j)
      wuv := fun c l j => (congrFun ((wuvIn_eq m ρ c).trans (agree c).2.2.2.1) _).trans (block_rows c _ l j)
      wq := fun c k j => congrFun ((wqIn_eq m ρ c).trans (agree c).2.2.2.2.1) _
      wqr := fun c k j => congrFun ((wqrIn_eq m ρ c).trans (agree c).2.2.2.2.2.1) _
      wkr := fun c k j => congrFun ((wkrIn_eq m ρ c).trans (agree c).2.2.2.2.2.2.1) _
      wo := fun c k j => congrFun ((woIn_eq m ρ c).trans (agree c).2.2.2.2.2.2.2) _ }
  refine ⟨Cert.ReferenceIdeal.Value.res_out0 m' 0, ?_, (θ_run _ _ _).mono (fun _ h => h 0) (Cert.ReferenceIdeal.Value.run m' ρ')⟩
  refine (θ_run _ _ _).mono (fun r h c => ⟨(h.1 c).1.trans ?_, (h.1 c).2⟩) (run_value m ρ)
  rw [Reference.result_steps]
  funext i
  rw [eq_ix3 i]
  exact (result_apply H c (i 0) (i 1) (i 2)).trans (Reference.steps_apply _ _ _ _ _ _ _ _ (i 0) (i 1) (i 2)).symm

end Cert.Attention

end
-- ==== Proof.lean ====
/-
# The claims, assembled

The frames of the kernel, of the kernel with its scale named, and of the reference; that naming the
scale keeps the kernel's values; and that the named kernel computes the reference's array.
-/
module

public import proofs.«01_k».proof.Defs
public import proofs.«01_k».proof.Proof.Frames
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Attention.frame_kernel, Cert.Attention.frame_named, Cert.Attention.frame_reference,
  Cert.Attention.preserves, Cert.Attention.algebraic⟩

end Cert.Proof

end
